-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x77x512 : Shape := ⟨3, ![1024, 77, 512]⟩
abbrev S1024x77 : Shape := ⟨2, ![1024, 77]⟩
abbrev S512x768 : Shape := ⟨2, ![512, 768]⟩
abbrev S768 : Shape := ⟨1, ![768]⟩
abbrev S768x768 : Shape := ⟨2, ![768, 768]⟩
abbrev S77x768 : Shape := ⟨2, ![77, 768]⟩
abbrev S2x768 : Shape := ⟨2, ![2, 768]⟩
abbrev S100x768 : Shape := ⟨2, ![100, 768]⟩
abbrev S201x768 : Shape := ⟨2, ![201, 768]⟩
abbrev S_ : Shape := ⟨0, ![]⟩

class Facts : Prop where
  bcast_S_S1024x77 : S_.BroadcastsInDim S1024x77 (![] : Fin 0 → Fin S1024x77.rank)
  reducesTo_S1024x77_S_d0_1 : S1024x77.ReducesTo [0, 1] S_
  h_S_ : 0 < S_.numel

variable [Facts]

def fn_part1 {F : FTy → Type} [FloatOps F] (main_arg3 : IVec S1024x77 32) (main_arg4 : IVec S1024x77 32) (main_v12 : IVec S_ 1) (main_v14 : IVec S1024x77 1) (main_v15 : IVec S1024x77 32) : IVec S_ 1 :=
  let main_v16 : IVec S1024x77 1 := cmpi .slt main_arg3 main_v15
  let main_v17 : IVec S1024x77 1 := andi main_v14 main_v16
  let main_c_7 : IVec S_ 1 := constantI S_ 1 1#1
  let main_v18 : IVec S_ 1 := (fun x v => Host.reduce IntOp.andi x v reducesTo_S1024x77_S_d0_1 h_S_) main_v17 main_c_7
  let main_v19 : IVec S_ 1 := andi main_v12 main_v18
  let main_c_8 : IVec S_ 32 := constantI S_ 32 0#32
  let main_v20 : IVec S1024x77 32 := broadcastInDim S1024x77 ![] bcast_S_S1024x77 main_c_8
  let main_v21 : IVec S1024x77 1 := cmpi .sge main_arg4 main_v20
  let main_c_9 : IVec S_ 32 := constantI S_ 32 100#32
  let main_v22 : IVec S1024x77 32 := broadcastInDim S1024x77 ![] bcast_S_S1024x77 main_c_9
  let main_v23 : IVec S1024x77 1 := cmpi .slt main_arg4 main_v22
  let main_v24 : IVec S1024x77 1 := andi main_v21 main_v23
  let main_c_10 : IVec S_ 1 := constantI S_ 1 1#1
  let main_v25 : IVec S_ 1 := (fun x v => Host.reduce IntOp.andi x v reducesTo_S1024x77_S_d0_1 h_S_) main_v24 main_c_10
  let main_v26 : IVec S_ 1 := andi main_v19 main_v25
  main_v26

def fn {F : FTy → Type} [FloatOps F] (main_arg0 : FVec F S1024x77x512 .f32) (main_arg1 : IVec S1024x77 32) (main_arg2 : IVec S1024x77 32) (main_arg3 : IVec S1024x77 32) (main_arg4 : IVec S1024x77 32) (main_arg5 : FVec F S512x768 .f32) (main_arg6 : FVec F S768 .f32) (main_arg7 : FVec F S768x768 .f32) (main_arg8 : FVec F S768 .f32) (main_arg9 : FVec F S77x768 .f32) (main_arg10 : FVec F S2x768 .f32) (main_arg11 : FVec F S100x768 .f32) (main_arg12 : FVec F S100x768 .f32) (main_arg13 : FVec F S100x768 .f32) (main_arg14 : FVec F S201x768 .f32) : IVec S_ 1 :=
  let main_c : IVec S_ 32 := constantI S_ 32 0#32
  let main_v0 : IVec S1024x77 32 := broadcastInDim S1024x77 ![] bcast_S_S1024x77 main_c
  let main_v1 : IVec S1024x77 1 := cmpi .sge main_arg1 main_v0
  let main_c_0 : IVec S_ 32 := constantI S_ 32 2#32
  let main_v2 : IVec S1024x77 32 := broadcastInDim S1024x77 ![] bcast_S_S1024x77 main_c_0
  let main_v3 : IVec S1024x77 1 := cmpi .slt main_arg1 main_v2
  let main_v4 : IVec S1024x77 1 := andi main_v1 main_v3
  let main_c_1 : IVec S_ 1 := constantI S_ 1 1#1
  let main_v5 : IVec S_ 1 := (fun x v => Host.reduce IntOp.andi x v reducesTo_S1024x77_S_d0_1 h_S_) main_v4 main_c_1
  let main_c_2 : IVec S_ 32 := constantI S_ 32 0#32
  let main_v6 : IVec S1024x77 32 := broadcastInDim S1024x77 ![] bcast_S_S1024x77 main_c_2
  let main_v7 : IVec S1024x77 1 := cmpi .sge main_arg2 main_v6
  let main_c_3 : IVec S_ 32 := constantI S_ 32 100#32
  let main_v8 : IVec S1024x77 32 := broadcastInDim S1024x77 ![] bcast_S_S1024x77 main_c_3
  let main_v9 : IVec S1024x77 1 := cmpi .slt main_arg2 main_v8
  let main_v10 : IVec S1024x77 1 := andi main_v7 main_v9
  let main_c_4 : IVec S_ 1 := constantI S_ 1 1#1
  let main_v11 : IVec S_ 1 := (fun x v => Host.reduce IntOp.andi x v reducesTo_S1024x77_S_d0_1 h_S_) main_v10 main_c_4
  let main_v12 : IVec S_ 1 := andi main_v5 main_v11
  let main_c_5 : IVec S_ 32 := constantI S_ 32 0#32
  let main_v13 : IVec S1024x77 32 := broadcastInDim S1024x77 ![] bcast_S_S1024x77 main_c_5
  let main_v14 : IVec S1024x77 1 := cmpi .sge main_arg3 main_v13
  let main_c_6 : IVec S_ 32 := constantI S_ 32 100#32
  let main_v15 : IVec S1024x77 32 := broadcastInDim S1024x77 ![] bcast_S_S1024x77 main_c_6
  fn_part1 (F := F) main_arg3 main_arg4 main_v12 main_v14 main_v15
-- ==== Kernel.lean ====
abbrev S1024x77x512 : Shape := ⟨3, ![1024, 77, 512]⟩
abbrev S1024x77 : Shape := ⟨2, ![1024, 77]⟩
abbrev S512x768 : Shape := ⟨2, ![512, 768]⟩
abbrev S768 : Shape := ⟨1, ![768]⟩
abbrev S768x768 : Shape := ⟨2, ![768, 768]⟩
abbrev S77x768 : Shape := ⟨2, ![77, 768]⟩
abbrev S2x768 : Shape := ⟨2, ![2, 768]⟩
abbrev S100x768 : Shape := ⟨2, ![100, 768]⟩
abbrev S201x768 : Shape := ⟨2, ![201, 768]⟩
abbrev S_ : Shape := ⟨0, ![]⟩
abbrev S4x768 : Shape := ⟨2, ![4, 768]⟩
abbrev S7x768 : Shape := ⟨2, ![7, 768]⟩
abbrev S6x768 : Shape := ⟨2, ![6, 768]⟩
abbrev S528x768 : Shape := ⟨2, ![528, 768]⟩
abbrev S77x1024x512 : Shape := ⟨3, ![77, 1024, 512]⟩
abbrev S77x1024 : Shape := ⟨2, ![77, 1024]⟩
abbrev S77x1x1024 : Shape := ⟨3, ![77, 1, 1024]⟩
abbrev S1x768 : Shape := ⟨2, ![1, 768]⟩
abbrev S77x1x768 : Shape := ⟨3, ![77, 1, 768]⟩
abbrev S77x1024x768 : Shape := ⟨3, ![77, 1024, 768]⟩
abbrev S1x512x512 : Shape := ⟨3, ![1, 512, 512]⟩
abbrev S1x1x512 : Shape := ⟨3, ![1, 1, 512]⟩
abbrev S1x1x768 : Shape := ⟨3, ![1, 1, 768]⟩
abbrev S1x512x768 : Shape := ⟨3, ![1, 512, 768]⟩
abbrev S512x512 : Shape := ⟨2, ![512, 512]⟩
abbrev S1x512 : Shape := ⟨2, ![1, 512]⟩
abbrev S208x512 : Shape := ⟨2, ![208, 512]⟩
abbrev S104x512 : Shape := ⟨2, ![104, 512]⟩
abbrev S8x512 : Shape := ⟨2, ![8, 512]⟩
abbrev S528x512 : Shape := ⟨2, ![528, 512]⟩
abbrev S1024x77x768 : Shape := ⟨3, ![1024, 77, 768]⟩

abbrev nBuf : Space → Nat
  | .hbm => 41
  | .vmem => 21
  | .smem => 0
  | _ => 0

abbrev bufTy : (tb : Table) → Fin (tcTables nBuf tb) → BufTy
  | .hbm, ⟨0, _⟩ => ⟨S1024x77x512, .f32⟩
  | .hbm, ⟨1, _⟩ => ⟨S1024x77, .i32⟩
  | .hbm, ⟨2, _⟩ => ⟨S1024x77, .i32⟩
  | .hbm, ⟨3, _⟩ => ⟨S1024x77, .i32⟩
  | .hbm, ⟨4, _⟩ => ⟨S1024x77, .i32⟩
  | .hbm, ⟨5, _⟩ => ⟨S512x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S77x768, .f32⟩
  | .hbm, ⟨10, _⟩ => ⟨S2x768, .f32⟩
  | .hbm, ⟨11, _⟩ => ⟨S100x768, .f32⟩
  | .hbm, ⟨12, _⟩ => ⟨S100x768, .f32⟩
  | .hbm, ⟨13, _⟩ => ⟨S100x768, .f32⟩
  | .hbm, ⟨14, _⟩ => ⟨S201x768, .f32⟩
  | .hbm, ⟨15, _⟩ => ⟨S_, .f32⟩
  | .hbm, ⟨16, _⟩ => ⟨S4x768, .f32⟩
  | .hbm, ⟨17, _⟩ => ⟨S_, .f32⟩
  | .hbm, ⟨18, _⟩ => ⟨S7x768, .f32⟩
  | .hbm, ⟨19, _⟩ => ⟨S_, .f32⟩
  | .hbm, ⟨20, _⟩ => ⟨S6x768, .f32⟩
  | .hbm, ⟨21, _⟩ => ⟨S528x768, .f32⟩
  | .hbm, ⟨22, _⟩ => ⟨S528x768, .bf16⟩
  | .hbm, ⟨23, _⟩ => ⟨S77x1024x512, .f32⟩
  | .hbm, ⟨24, _⟩ => ⟨S77x1024, .i32⟩
  | .hbm, ⟨25, _⟩ => ⟨S77x1x1024, .i32⟩
  | .hbm, ⟨26, _⟩ => ⟨S77x1024, .i32⟩
  | .hbm, ⟨27, _⟩ => ⟨S77x1x1024, .i32⟩
  | .hbm, ⟨28, _⟩ => ⟨S77x1024, .i32⟩
  | .hbm, ⟨29, _⟩ => ⟨S77x1x1024, .i32⟩
  | .hbm, ⟨30, _⟩ => ⟨S77x1024, .i32⟩
  | .hbm, ⟨31, _⟩ => ⟨S77x1x1024, .i32⟩
  | .hbm, ⟨32, _⟩ => ⟨S512x768, .bf16⟩
  | .hbm, ⟨33, _⟩ => ⟨S1x768, .f32⟩
  | .hbm, ⟨34, _⟩ => ⟨S768x768, .bf16⟩
  | .hbm, ⟨35, _⟩ => ⟨S1x768, .f32⟩
  | .hbm, ⟨36, _⟩ => ⟨S77x1x768, .f32⟩
  | .hbm, ⟨37, _⟩ => ⟨S77x1024x768, .f32⟩
  | .hbm, ⟨38, _⟩ => ⟨S77x1024x768, .f32⟩
  | .hbm, ⟨39, _⟩ => ⟨S1024x77x768, .f32⟩
  | .hbm, ⟨40, _⟩ => ⟨S1024x77x768, .f32⟩
  | .local _ .vmem, ⟨0, _⟩ => ⟨S1x512x512, .f32⟩
  | .local _ .vmem, ⟨1, _⟩ => ⟨S1x512x512, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S512x768, .bf16⟩
  | .local _ .vmem, ⟨11, _⟩ => ⟨S1x768, .f32⟩
  | .local _ .vmem, ⟨12, _⟩ => ⟨S768x768, .bf16⟩
  | .local _ .vmem, ⟨13, _⟩ => ⟨S1x768, .f32⟩
  | .local _ .vmem, ⟨14, _⟩ => ⟨S528x768, .bf16⟩
  | .local _ .vmem, ⟨15, _⟩ => ⟨S1x1x768, .f32⟩
  | .local _ .vmem, ⟨16, _⟩ => ⟨S1x1x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | _, _ => ⟨S1024x77x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![77, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S528x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "rsqrt2" => some (((Real.sqrt 2)⁻¹ : ℝ) : EReal)
  | _ => none
-- ==== ReferenceIdeal.lean ====
abbrev S1024x77x512 : Shape := ⟨3, ![1024, 77, 512]⟩
abbrev S1024x77 : Shape := ⟨2, ![1024, 77]⟩
abbrev S512x768 : Shape := ⟨2, ![512, 768]⟩
abbrev S768 : Shape := ⟨1, ![768]⟩
abbrev S768x768 : Shape := ⟨2, ![768, 768]⟩
abbrev S77x768 : Shape := ⟨2, ![77, 768]⟩
abbrev S2x768 : Shape := ⟨2, ![2, 768]⟩
abbrev S100x768 : Shape := ⟨2, ![100, 768]⟩
abbrev S201x768 : Shape := ⟨2, ![201, 768]⟩
abbrev S1024x77x768 : Shape := ⟨3, ![1024, 77, 768]⟩
abbrev S1x1x768 : Shape := ⟨3, ![1, 1, 768]⟩
abbrev S_ : Shape := ⟨0, ![]⟩
abbrev S77 : Shape := ⟨1, ![77]⟩
abbrev S1x77 : Shape := ⟨2, ![1, 77]⟩
abbrev S1024x77x1 : Shape := ⟨3, ![1024, 77, 1]⟩
abbrev S1 : Shape := ⟨1, ![1]⟩
abbrev S1x1x1 : Shape := ⟨3, ![1, 1, 1]⟩

abbrev nBuf : Space → Nat
  | .hbm => 255
  | .vmem => 0
  | .smem => 0
  | _ => 0

abbrev hbmTy0_0 (i : Nat) : BufTy := match i % 128 with
  | 0 => ⟨S1024x77x512, .f32⟩
  | 1 => ⟨S1024x77, .i32⟩
  | 2 => ⟨S1024x77, .i32⟩
  | 3 => ⟨S1024x77, .i32⟩
  | 4 => ⟨S1024x77, .i32⟩
  | 5 => ⟨S512x768, .f32⟩
  | 6 => ⟨S768, .f32⟩
  | 7 => ⟨S768x768, .f32⟩
  | 8 => ⟨S768, .f32⟩
  | 9 => ⟨S77x768, .f32⟩
  | 10 => ⟨S2x768, .f32⟩
  | 11 => ⟨S100x768, .f32⟩
  | 12 => ⟨S100x768, .f32⟩
  | 13 => ⟨S100x768, .f32⟩
  | 14 => ⟨S201x768, .f32⟩
  | 15 => ⟨S1024x77x768, .f32⟩
  | 16 => ⟨S1x1x768, .f32⟩
  | 17 => ⟨S1024x77x768, .f32⟩
  | 18 => ⟨S1024x77x768, .f32⟩
  | 19 => ⟨S_, .f32⟩
  | 20 => ⟨S1024x77x768, .f32⟩
  | 21 => ⟨S1024x77x768, .f32⟩
  | 22 => ⟨S1024x77x768, .f32⟩
  | 23 => ⟨S_, .f32⟩
  | 24 => ⟨S_, .f32⟩
  | 25 => ⟨S1024x77x768, .f32⟩
  | 26 => ⟨S1024x77x768, .f32⟩
  | 27 => ⟨S1024x77x768, .f32⟩
  | 28 => ⟨S1024x77x768, .f32⟩
  | 29 => ⟨S1024x77x768, .f32⟩
  | 30 => ⟨S1x1x768, .f32⟩
  | 31 => ⟨S1024x77x768, .f32⟩
  | 32 => ⟨S1024x77x768, .f32⟩
  | 33 => ⟨S77, .i32⟩
  | 34 => ⟨S1x77, .i32⟩
  | 35 => ⟨S1024x77, .i32⟩
  | 36 => ⟨S_, .i32⟩
  | 37 => ⟨S1024x77, .i32⟩
  | 38 => ⟨S1024x77, .i32⟩
  | 39 => ⟨S_, .i32⟩
  | 40 => ⟨S1024x77, .i32⟩
  | 41 => ⟨S1024x77, .i1⟩
  | 42 => ⟨S_, .i32⟩
  | 43 => ⟨S1024x77, .i32⟩
  | 44 => ⟨S1024x77, .i32⟩
  | 45 => ⟨S1024x77, .i32⟩
  | 46 => ⟨S1024x77x1, .i32⟩
  | 47 => ⟨S1, .i32⟩
  | 48 => ⟨S_, .i32⟩
  | 49 => ⟨S1024x77x1, .i32⟩
  | 50 => ⟨S1024x77x1, .i1⟩
  | 51 => ⟨S1x1x1, .i32⟩
  | 52 => ⟨S1024x77x1, .i32⟩
  | 53 => ⟨S1024x77x1, .i1⟩
  | 54 => ⟨S1024x77x1, .i1⟩
  | 55 => ⟨S_, .i1⟩
  | 56 => ⟨S1024x77, .i1⟩
  | 57 => ⟨S1024x77x768, .f32⟩
  | 58 => ⟨S1024x77x768, .i1⟩
  | 59 => ⟨S_, .f32⟩
  | 60 => ⟨S1024x77x768, .f32⟩
  | 61 => ⟨S1024x77x768, .f32⟩
  | 62 => ⟨S1024x77x768, .f32⟩
  | 63 => ⟨S_, .i32⟩
  | 64 => ⟨S1024x77, .i32⟩
  | 65 => ⟨S1024x77, .i1⟩
  | 66 => ⟨S_, .i32⟩
  | 67 => ⟨S1024x77, .i32⟩
  | 68 => ⟨S1024x77, .i32⟩
  | 69 => ⟨S1024x77, .i32⟩
  | 70 => ⟨S1024x77x1, .i32⟩
  | 71 => ⟨S1, .i32⟩
  | 72 => ⟨S_, .i32⟩
  | 73 => ⟨S1024x77x1, .i32⟩
  | 74 => ⟨S1024x77x1, .i1⟩
  | 75 => ⟨S1x1x1, .i32⟩
  | 76 => ⟨S1024x77x1, .i32⟩
  | 77 => ⟨S1024x77x1, .i1⟩
  | 78 => ⟨S1024x77x1, .i1⟩
  | 79 => ⟨S_, .i1⟩
  | 80 => ⟨S1024x77, .i1⟩
  | 81 => ⟨S1024x77x768, .f32⟩
  | 82 => ⟨S1024x77x768, .i1⟩
  | 83 => ⟨S_, .f32⟩
  | 84 => ⟨S1024x77x768, .f32⟩
  | 85 => ⟨S1024x77x768, .f32⟩
  | 86 => ⟨S1024x77x768, .f32⟩
  | 87 => ⟨S_, .i32⟩
  | 88 => ⟨S1024x77, .i32⟩
  | 89 => ⟨S1024x77, .i1⟩
  | 90 => ⟨S_, .i32⟩
  | 91 => ⟨S1024x77, .i32⟩
  | 92 => ⟨S1024x77, .i32⟩
  | 93 => ⟨S_, .i32⟩
  | 94 => ⟨S1024x77, .i32⟩
  | 95 => ⟨S1024x77, .i1⟩
  | 96 => ⟨S_, .i32⟩
  | 97 => ⟨S1024x77, .i32⟩
  | 98 => ⟨S1024x77, .i32⟩
  | 99 => ⟨S1024x77, .i32⟩
  | 100 => ⟨S1024x77x1, .i32⟩
  | 101 => ⟨S1, .i32⟩
  | 102 => ⟨S_, .i32⟩
  | 103 => ⟨S1024x77x1, .i32⟩
  | 104 => ⟨S1024x77x1, .i1⟩
  | 105 => ⟨S1x1x1, .i32⟩
  | 106 => ⟨S1024x77x1, .i32⟩
  | 107 => ⟨S1024x77x1, .i1⟩
  | 108 => ⟨S1024x77x1, .i1⟩
  | 109 => ⟨S_, .i1⟩
  | 110 => ⟨S1024x77, .i1⟩
  | 111 => ⟨S1024x77x768, .f32⟩
  | 112 => ⟨S1024x77x768, .i1⟩
  | 113 => ⟨S_, .f32⟩
  | 114 => ⟨S1024x77x768, .f32⟩
  | 115 => ⟨S1024x77x768, .f32⟩
  | 116 => ⟨S1024x77x1, .i1⟩
  | 117 => ⟨S1024x77x768, .f32⟩
  | 118 => ⟨S1024x77x768, .i1⟩
  | 119 => ⟨S1024x77x768, .f32⟩
  | 120 => ⟨S_, .i32⟩
  | 121 => ⟨S1024x77, .i32⟩
  | 122 => ⟨S1024x77, .i1⟩
  | 123 => ⟨S_, .i32⟩
  | 124 => ⟨S1024x77, .i32⟩
  | 125 => ⟨S1024x77, .i32⟩
  | 126 => ⟨S_, .i32⟩
  | 127 => ⟨S1024x77, .i32⟩
  | _ => ⟨S1024x77x512, .f32⟩

abbrev hbmTy0_1 (i : Nat) : BufTy := match i % 128 with
  | 0 => ⟨S1024x77, .i1⟩
  | 1 => ⟨S_, .i32⟩
  | 2 => ⟨S1024x77, .i32⟩
  | 3 => ⟨S1024x77, .i32⟩
  | 4 => ⟨S1024x77, .i32⟩
  | 5 => ⟨S1024x77x1, .i32⟩
  | 6 => ⟨S1, .i32⟩
  | 7 => ⟨S_, .i32⟩
  | 8 => ⟨S1024x77x1, .i32⟩
  | 9 => ⟨S1024x77x1, .i1⟩
  | 10 => ⟨S1x1x1, .i32⟩
  | 11 => ⟨S1024x77x1, .i32⟩
  | 12 => ⟨S1024x77x1, .i1⟩
  | 13 => ⟨S1024x77x1, .i1⟩
  | 14 => ⟨S_, .i1⟩
  | 15 => ⟨S1024x77, .i1⟩
  | 16 => ⟨S1024x77x768, .f32⟩
  | 17 => ⟨S1024x77x768, .i1⟩
  | 18 => ⟨S_, .f32⟩
  | 19 => ⟨S1024x77x768, .f32⟩
  | 20 => ⟨S1024x77x768, .f32⟩
  | 21 => ⟨S_, .i32⟩
  | 22 => ⟨S1024x77, .i32⟩
  | 23 => ⟨S1024x77, .i32⟩
  | 24 => ⟨S_, .i32⟩
  | 25 => ⟨S1024x77, .i32⟩
  | 26 => ⟨S1024x77, .i1⟩
  | 27 => ⟨S_, .i32⟩
  | 28 => ⟨S1024x77, .i32⟩
  | 29 => ⟨S1024x77, .i32⟩
  | 30 => ⟨S1024x77, .i32⟩
  | 31 => ⟨S1024x77x1, .i32⟩
  | 32 => ⟨S1, .i32⟩
  | 33 => ⟨S_, .i32⟩
  | 34 => ⟨S1024x77x1, .i32⟩
  | 35 => ⟨S1024x77x1, .i1⟩
  | 36 => ⟨S1x1x1, .i32⟩
  | 37 => ⟨S1024x77x1, .i32⟩
  | 38 => ⟨S1024x77x1, .i1⟩
  | 39 => ⟨S1024x77x1, .i1⟩
  | 40 => ⟨S_, .i1⟩
  | 41 => ⟨S1024x77, .i1⟩
  | 42 => ⟨S1024x77x768, .f32⟩
  | 43 => ⟨S1024x77x768, .i1⟩
  | 44 => ⟨S_, .f32⟩
  | 45 => ⟨S1024x77x768, .f32⟩
  | 46 => ⟨S1024x77x768, .f32⟩
  | 47 => ⟨S1024x77x1, .i1⟩
  | 48 => ⟨S1024x77x768, .f32⟩
  | 49 => ⟨S1024x77x768, .f32⟩
  | 50 => ⟨S1024x77x768, .i1⟩
  | 51 => ⟨S1024x77x768, .f32⟩
  | 52 => ⟨S1024x77, .i32⟩
  | 53 => ⟨S_, .i32⟩
  | 54 => ⟨S_, .i32⟩
  | 55 => ⟨S_, .i32⟩
  | 56 => ⟨S1024x77, .i32⟩
  | 57 => ⟨S1024x77, .i32⟩
  | 58 => ⟨S_, .i32⟩
  | 59 => ⟨S1024x77, .i32⟩
  | 60 => ⟨S1024x77, .i32⟩
  | 61 => ⟨S_, .i32⟩
  | 62 => ⟨S1024x77, .i32⟩
  | 63 => ⟨S1024x77, .i32⟩
  | 64 => ⟨S1024x77, .i32⟩
  | 65 => ⟨S_, .i32⟩
  | 66 => ⟨S_, .i32⟩
  | 67 => ⟨S_, .i32⟩
  | 68 => ⟨S1024x77, .i32⟩
  | 69 => ⟨S1024x77, .i32⟩
  | 70 => ⟨S_, .i32⟩
  | 71 => ⟨S1024x77, .i32⟩
  | 72 => ⟨S1024x77, .i32⟩
  | 73 => ⟨S_, .i32⟩
  | 74 => ⟨S1024x77, .i32⟩
  | 75 => ⟨S1024x77, .i32⟩
  | 76 => ⟨S_, .i32⟩
  | 77 => ⟨S1024x77, .i32⟩
  | 78 => ⟨S1024x77, .i1⟩
  | 79 => ⟨S_, .i32⟩
  | 80 => ⟨S1024x77, .i32⟩
  | 81 => ⟨S1024x77, .i32⟩
  | 82 => ⟨S1024x77, .i32⟩
  | 83 => ⟨S1024x77x1, .i32⟩
  | 84 => ⟨S1, .i32⟩
  | 85 => ⟨S_, .i32⟩
  | 86 => ⟨S1024x77x1, .i32⟩
  | 87 => ⟨S1024x77x1, .i1⟩
  | 88 => ⟨S1x1x1, .i32⟩
  | 89 => ⟨S1024x77x1, .i32⟩
  | 90 => ⟨S1024x77x1, .i1⟩
  | 91 => ⟨S1024x77x1, .i1⟩
  | 92 => ⟨S_, .i1⟩
  | 93 => ⟨S1024x77, .i1⟩
  | 94 => ⟨S1024x77x768, .f32⟩
  | 95 => ⟨S1024x77x768, .i1⟩
  | 96 => ⟨S_, .f32⟩
  | 97 => ⟨S1024x77x768, .f32⟩
  | 98 => ⟨S1024x77x768, .f32⟩
  | 99 => ⟨S_, .i32⟩
  | 100 => ⟨S1024x77, .i32⟩
  | 101 => ⟨S1024x77, .i1⟩
  | 102 => ⟨S_, .i32⟩
  | 103 => ⟨S1024x77, .i32⟩
  | 104 => ⟨S1024x77, .i32⟩
  | 105 => ⟨S1024x77, .i32⟩
  | 106 => ⟨S1024x77x1, .i32⟩
  | 107 => ⟨S1, .i32⟩
  | 108 => ⟨S_, .i32⟩
  | 109 => ⟨S1024x77x1, .i32⟩
  | 110 => ⟨S1024x77x1, .i1⟩
  | 111 => ⟨S1x1x1, .i32⟩
  | 112 => ⟨S1024x77x1, .i32⟩
  | 113 => ⟨S1024x77x1, .i1⟩
  | 114 => ⟨S1024x77x1, .i1⟩
  | 115 => ⟨S_, .i1⟩
  | 116 => ⟨S1024x77, .i1⟩
  | 117 => ⟨S1024x77x768, .f32⟩
  | 118 => ⟨S1024x77x768, .i1⟩
  | 119 => ⟨S_, .f32⟩
  | 120 => ⟨S1024x77x768, .f32⟩
  | 121 => ⟨S1024x77x768, .f32⟩
  | 122 => ⟨S1024x77x1, .i1⟩
  | 123 => ⟨S1024x77x768, .f32⟩
  | 124 => ⟨S1024x77x768, .f32⟩
  | 125 => ⟨S1024x77x768, .i1⟩
  | 126 => ⟨S1024x77x768, .f32⟩
  | _ => ⟨S1024x77x512, .f32⟩

abbrev hbmTy (i : Nat) : BufTy := match i / 128 with
  | 0 => hbmTy0_0 i
  | 1 => hbmTy0_1 i
  | _ => ⟨S1024x77x512, .f32⟩

abbrev bufTy : (tb : Table) → Fin (tcTables nBuf tb) → BufTy
  | .hbm, ⟨i, _⟩ => hbmTy i
  | _, _ => ⟨S1024x77x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v21 : Ref sig .tc := ⟨.hbm, 61, rfl⟩
abbrev main_v22 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v23 : Ref sig .tc := ⟨.hbm, 85, rfl⟩
abbrev main_v24 : Ref sig .tc := ⟨.hbm, 86, rfl⟩
abbrev main_c_1 : Ref sig .tc := ⟨.hbm, 87, rfl⟩
abbrev main_v25 : Ref sig .tc := ⟨.hbm, 88, rfl⟩
abbrev main_v26 : Ref sig .tc := ⟨.hbm, 89, rfl⟩
abbrev main_c_2 : Ref sig .tc := ⟨.hbm, 90, rfl⟩
abbrev main_v27 : Ref sig .tc := ⟨.hbm, 91, rfl⟩
abbrev main_v28 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_c_1 : Ref sig .tc := ⟨.hbm, 101, rfl⟩
abbrev main_call2_c_2 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_3 : Ref sig .tc := ⟨.hbm, 109, rfl⟩
abbrev main_call2_v12 : Ref sig .tc := ⟨.hbm, 110, rfl⟩
abbrev main_call2_v13 : Ref sig .tc := ⟨.hbm, 111, rfl⟩
abbrev main_call2_v14 : Ref sig .tc := ⟨.hbm, 112, rfl⟩
abbrev main_call2_cst : Ref sig .tc := ⟨.hbm, 113, rfl⟩
abbrev main_call2_v15 : Ref sig .tc := ⟨.hbm, 114, rfl⟩
abbrev main_v29 : Ref sig .tc := ⟨.hbm, 115, rfl⟩
abbrev main_v30 : Ref sig .tc := ⟨.hbm, 116, rfl⟩
abbrev main_v31 : Ref sig .tc := ⟨.hbm, 117, rfl⟩
abbrev main_call3_v0 : Ref sig .tc := ⟨.hbm, 118, rfl⟩
abbrev main_v32 : Ref sig .tc := ⟨.hbm, 119, rfl⟩
abbrev main_c_3 : Ref sig .tc := ⟨.hbm, 120, rfl⟩
abbrev main_v33 : Ref sig .tc := ⟨.hbm, 121, rfl⟩
abbrev main_v34 : Ref sig .tc := ⟨.hbm, 122, rfl⟩
abbrev main_c_4 : Ref sig .tc := ⟨.hbm, 123, rfl⟩
abbrev main_v35 : Ref sig .tc := ⟨.hbm, 124, rfl⟩
abbrev main_v36 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_c_1 : Ref sig .tc := ⟨.hbm, 134, rfl⟩
abbrev main_call4_c_2 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_3 : Ref sig .tc := ⟨.hbm, 142, rfl⟩
abbrev main_call4_v12 : Ref sig .tc := ⟨.hbm, 143, rfl⟩
abbrev main_call4_v13 : Ref sig .tc := ⟨.hbm, 144, rfl⟩
abbrev main_call4_v14 : Ref sig .tc := ⟨.hbm, 145, rfl⟩
abbrev main_call4_cst : Ref sig .tc := ⟨.hbm, 146, rfl⟩
abbrev main_call4_v15 : Ref sig .tc := ⟨.hbm, 147, rfl⟩
abbrev main_v37 : Ref sig .tc := ⟨.hbm, 148, rfl⟩
abbrev main_c_5 : Ref sig .tc := ⟨.hbm, 149, rfl⟩
abbrev main_v38 : Ref sig .tc := ⟨.hbm, 150, rfl⟩
abbrev main_v39 : Ref sig .tc := ⟨.hbm, 151, rfl⟩
abbrev main_call5_c : Ref sig .tc := ⟨.hbm, 152, rfl⟩
abbrev main_call5_v0 : Ref sig .tc := ⟨.hbm, 153, rfl⟩
abbrev main_call5_v1 : Ref sig .tc := ⟨.hbm, 154, rfl⟩
abbrev main_call5_c_0 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_c_1 : Ref sig .tc := ⟨.hbm, 160, rfl⟩
abbrev main_call5_c_2 : Ref sig .tc := ⟨.hbm, 161, rfl⟩
abbrev main_call5_v6 : Ref sig .tc := ⟨.hbm, 162, rfl⟩
abbrev main_call5_v7 : Ref sig .tc := ⟨.hbm, 163, rfl⟩
abbrev main_call5_v8 : Ref sig .tc := ⟨.hbm, 164, rfl⟩
abbrev main_call5_v9 : Ref sig .tc := ⟨.hbm, 165, rfl⟩
abbrev main_call5_v10 : Ref sig .tc := ⟨.hbm, 166, rfl⟩
abbrev main_call5_v11 : Ref sig .tc := ⟨.hbm, 167, rfl⟩
abbrev main_call5_c_3 : Ref sig .tc := ⟨.hbm, 168, rfl⟩
abbrev main_call5_v12 : Ref sig .tc := ⟨.hbm, 169, rfl⟩
abbrev main_call5_v13 : Ref sig .tc := ⟨.hbm, 170, rfl⟩
abbrev main_call5_v14 : Ref sig .tc := ⟨.hbm, 171, rfl⟩
abbrev main_call5_cst : Ref sig .tc := ⟨.hbm, 172, rfl⟩
abbrev main_call5_v15 : Ref sig .tc := ⟨.hbm, 173, rfl⟩
abbrev main_v40 : Ref sig .tc := ⟨.hbm, 174, rfl⟩
abbrev main_v41 : Ref sig .tc := ⟨.hbm, 175, rfl⟩
abbrev main_v42 : Ref sig .tc := ⟨.hbm, 176, rfl⟩
abbrev main_v43 : Ref sig .tc := ⟨.hbm, 177, rfl⟩
abbrev main_call6_v0 : Ref sig .tc := ⟨.hbm, 178, rfl⟩
abbrev main_v44 : Ref sig .tc := ⟨.hbm, 179, rfl⟩
abbrev main_v45 : Ref sig .tc := ⟨.hbm, 180, rfl⟩
abbrev main_c_6 : Ref sig .tc := ⟨.hbm, 181, rfl⟩
abbrev main_c_7 : Ref sig .tc := ⟨.hbm, 182, rfl⟩
abbrev main_call7_v0 : Ref sig .tc := ⟨.hbm, 183, rfl⟩
abbrev main_call7_v1 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_v46 : Ref sig .tc := ⟨.hbm, 188, rfl⟩
abbrev main_c_8 : Ref sig .tc := ⟨.hbm, 189, rfl⟩
abbrev main_v47 : Ref sig .tc := ⟨.hbm, 190, rfl⟩
abbrev main_v48 : Ref sig .tc := ⟨.hbm, 191, rfl⟩
abbrev main_v49 : Ref sig .tc := ⟨.hbm, 192, rfl⟩
abbrev main_c_9 : Ref sig .tc := ⟨.hbm, 193, rfl⟩
abbrev main_c_10 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_v50 : Ref sig .tc := ⟨.hbm, 200, rfl⟩
abbrev main_c_11 : Ref sig .tc := ⟨.hbm, 201, rfl⟩
abbrev main_v51 : Ref sig .tc := ⟨.hbm, 202, rfl⟩
abbrev main_v52 : Ref sig .tc := ⟨.hbm, 203, rfl⟩
abbrev main_call9_c : Ref sig .tc := ⟨.hbm, 204, rfl⟩
abbrev main_call9_v0 : Ref sig .tc := ⟨.hbm, 205, rfl⟩
abbrev main_call9_v1 : Ref sig .tc := ⟨.hbm, 206, rfl⟩
abbrev main_call9_c_0 : Ref sig .tc := ⟨.hbm, 207, rfl⟩
abbrev main_call9_v2 : Ref sig .tc := ⟨.hbm, 208, rfl⟩
abbrev main_call9_v3 : Ref sig .tc := ⟨.hbm, 209, rfl⟩
abbrev main_call9_v4 : Ref sig .tc := ⟨.hbm, 210, rfl⟩
abbrev main_call9_v5 : Ref sig .tc := ⟨.hbm, 211, rfl⟩
abbrev main_call9_c_1 : Ref sig .tc := ⟨.hbm, 212, rfl⟩
abbrev main_call9_c_2 : Ref sig .tc := ⟨.hbm, 213, rfl⟩
abbrev main_call9_v6 : Ref sig .tc := ⟨.hbm, 214, rfl⟩
abbrev main_call9_v7 : Ref sig .tc := ⟨.hbm, 215, rfl⟩
abbrev main_call9_v8 : Ref sig .tc := ⟨.hbm, 216, rfl⟩
abbrev main_call9_v9 : Ref sig .tc := ⟨.hbm, 217, rfl⟩
abbrev main_call9_v10 : Ref sig .tc := ⟨.hbm, 218, rfl⟩
abbrev main_call9_v11 : Ref sig .tc := ⟨.hbm, 219, rfl⟩
abbrev main_call9_c_3 : Ref sig .tc := ⟨.hbm, 220, rfl⟩
abbrev main_call9_v12 : Ref sig .tc := ⟨.hbm, 221, rfl⟩
abbrev main_call9_v13 : Ref sig .tc := ⟨.hbm, 222, rfl⟩
abbrev main_call9_v14 : Ref sig .tc := ⟨.hbm, 223, rfl⟩
abbrev main_call9_cst : Ref sig .tc := ⟨.hbm, 224, rfl⟩
abbrev main_call9_v15 : Ref sig .tc := ⟨.hbm, 225, rfl⟩
abbrev main_v53 : Ref sig .tc := ⟨.hbm, 226, rfl⟩
abbrev main_call10_c : Ref sig .tc := ⟨.hbm, 227, rfl⟩
abbrev main_call10_v0 : Ref sig .tc := ⟨.hbm, 228, rfl⟩
abbrev main_call10_v1 : Ref sig .tc := ⟨.hbm, 229, rfl⟩
abbrev main_call10_c_0 : Ref sig .tc := ⟨.hbm, 230, rfl⟩
abbrev main_call10_v2 : Ref sig .tc := ⟨.hbm, 231, rfl⟩
abbrev main_call10_v3 : Ref sig .tc := ⟨.hbm, 232, rfl⟩
abbrev main_call10_v4 : Ref sig .tc := ⟨.hbm, 233, rfl⟩
abbrev main_call10_v5 : Ref sig .tc := ⟨.hbm, 234, rfl⟩
abbrev main_call10_c_1 : Ref sig .tc := ⟨.hbm, 235, rfl⟩
abbrev main_call10_c_2 : Ref sig .tc := ⟨.hbm, 236, rfl⟩
abbrev main_call10_v6 : Ref sig .tc := ⟨.hbm, 237, rfl⟩
abbrev main_call10_v7 : Ref sig .tc := ⟨.hbm, 238, rfl⟩
abbrev main_call10_v8 : Ref sig .tc := ⟨.hbm, 239, rfl⟩
abbrev main_call10_v9 : Ref sig .tc := ⟨.hbm, 240, rfl⟩
abbrev main_call10_v10 : Ref sig .tc := ⟨.hbm, 241, rfl⟩
abbrev main_call10_v11 : Ref sig .tc := ⟨.hbm, 242, rfl⟩
abbrev main_call10_c_3 : Ref sig .tc := ⟨.hbm, 243, rfl⟩
abbrev main_call10_v12 : Ref sig .tc := ⟨.hbm, 244, rfl⟩
abbrev main_call10_v13 : Ref sig .tc := ⟨.hbm, 245, rfl⟩
abbrev main_call10_v14 : Ref sig .tc := ⟨.hbm, 246, rfl⟩
abbrev main_call10_cst : Ref sig .tc := ⟨.hbm, 247, rfl⟩
abbrev main_call10_v15 : Ref sig .tc := ⟨.hbm, 248, rfl⟩
abbrev main_v54 : Ref sig .tc := ⟨.hbm, 249, rfl⟩
abbrev main_v55 : Ref sig .tc := ⟨.hbm, 250, rfl⟩
abbrev main_v56 : Ref sig .tc := ⟨.hbm, 251, rfl⟩
abbrev main_v57 : Ref sig .tc := ⟨.hbm, 252, rfl⟩
abbrev main_call11_v0 : Ref sig .tc := ⟨.hbm, 253, rfl⟩
abbrev main_v58 : Ref sig .tc := ⟨.hbm, 254, rfl⟩

abbrev nD : Nat := 1
abbrev τ : Topo := Topo.v7x

variable {F : FTy → Type} [FloatOps F]
-- ==== Proof.Spec.lean ====
module

public import proofs.«01_k».proof.Proof.Gen.KernelIdeal
public import Idealize.ShloMosaic.Lib.Pointwise

@[expose] public section

set_option maxRecDepth 16384

noncomputable section

/-! What the two programs compute, element by element, over the extended reals. -/

namespace Cert.Spec

open Idealize.ShloMosaic Cert.KernelIdeal

/-- The exact GELU as the kernel writes it: half of `h`, times one plus the error function of `h / √2`. -/
def gelu (h : EReal) : EReal :=
  Ideal.ofBits FTy.f32 1056964608#32 * h
    * (1 + FloatOps.erf (F := Ideal) (φ := .f32) (h * Named.named (F := Ideal) (φ := .f32) κ "rsqrt2" 1060439283#32))

/-- The hidden layer before its activation: `x · W1 + b1`. -/
def hidden (X : FVec Ideal S1024x77x512 .f32) (W1 : FVec Ideal S512x768 .f32) (b1 : FVec Ideal S768 .f32)
    (b : Fin 1024) (s : Fin 77) (k : Fin 768) : EReal :=
  ∑ d : Fin 512, X (ix3 b s d) * W1 (ix2 d k) + b1 (ix1 k)

/-- The adapter's output: `gelu (x · W1 + b1) · W2 + b2`. -/
def clean (X : FVec Ideal S1024x77x512 .f32) (W1 : FVec Ideal S512x768 .f32) (b1 : FVec Ideal S768 .f32)
    (W2 : FVec Ideal S768x768 .f32) (b2 : FVec Ideal S768 .f32) (b : Fin 1024) (s : Fin 77) (e : Fin 768) : EReal :=
  ∑ k : Fin 768, gelu (hidden X W1 b1 b s k) * W2 (ix2 k e) + b2 (ix1 e)

/-- A one-hot entry: 1 where the row number `k` is the word `w`, else 0. -/
def hot (k : ℕ) (w : BitVec 32) : EReal :=
  FloatOps.sitofp (F := Ideal) .f32 (BitVec.setWidth 32 (IntOp.cmpi CmpIPredicate.eq (BitVec.ofNat 32 k) w))

/-- The row of the table's first part a position takes: the object's own index, or past it the subject's. -/
def rowA (t oi sp : BitVec 32) : BitVec 32 :=
  Scalar.select (IntOp.cmpi .eq (IntOp.minsi 1#32 (IntOp.maxsi 0#32 t)) 0#32) (IntOp.minsi oi 99#32)
    (IntOp.addi (IntOp.minsi sp 99#32) 104#32)

/-- A row that only a relation position takes. -/
def rowRel (t w : BitVec 32) : BitVec 32 :=
  Scalar.select (IntOp.cmpi .eq (IntOp.minsi 1#32 (IntOp.maxsi 0#32 t)) 1#32) w 4294967295#32

/-- The distance row: the position less the pointer, clipped and shifted to start at zero. -/
def dist (s p : BitVec 32) : BitVec 32 :=
  IntOp.addi (IntOp.minsi 100#32 (IntOp.maxsi 4294967196#32 (IntOp.subi s (IntOp.minsi p 99#32)))) 100#32

/-- The kernel's embedding term: the multi-hot column of a position times the column `T` of the table. -/
def looked (s t oi sp op : BitVec 32) (T : Fin 528 → EReal) : EReal :=
  ∑ x : Fin 528,
    (if _h : x.val < 208 then hot x (rowA t oi sp)
      else if _h : x.val - 208 < 104 then hot (x - 208) (rowRel t (IntOp.minsi op 99#32))
      else if _h : x.val - 208 - 104 < 208 then
        hot (x - 208 - 104) (rowRel t (dist s sp)) + hot (x - 208 - 104) (rowRel t (dist s op))
      else hot (x - 208 - 104 - 208) (IntOp.minsi 1#32 (IntOp.maxsi 0#32 t))) * T x

end Cert.Spec
end
-- ==== Proof.HostReads.lean ====
module

public import proofs.«01_k».proof.Proof.Gen.KernelIdeal.Frame
public import Idealize.ShloMosaic.Lib.Claim
public import Idealize.ShloMosaic.Lib.StableHlo.RunRead
public import Idealize.ShloMosaic.Lib.Pipeline.ValueKit

@[expose] public section

set_option maxRecDepth 16384

noncomputable section

/-! What the host operations before the launch leave in the arrays the launch reads. -/

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The transposed input at an entry. -/
theorem V_v5 (c : Dev nD) (s : Fin 77) (b : Fin 1024) (d : Fin 512) :
    V m c main_v5 (ix3 s b d) = m ((c : Thread nD τ).loc main_arg0) (ix3 b s d) := by
  simp only [V, V0, List.flatten_cons, List.flatten_nil, List.append_nil]
  after_reads_simp
  pointwise

/-- The transposed token types at an entry. -/
theorem V_v7 (c : Dev nD) (s : Fin 77) (b : Fin 1024) :
    V m c main_v7 (ix3 s 0 b) = m ((c : Thread nD τ).loc main_arg1) (ix2 b s) := by
  simp only [V, V0, List.flatten_cons, List.flatten_nil, List.append_nil]
  after_reads_simp
  pointwise

/-- The transposed object indices at an entry. -/
theorem V_v9 (c : Dev nD) (s : Fin 77) (b : Fin 1024) :
    V m c main_v9 (ix3 s 0 b) = m ((c : Thread nD τ).loc main_arg2) (ix2 b s) := by
  simp only [V, V0, List.flatten_cons, List.flatten_nil, List.append_nil]
  after_reads_simp
  pointwise

/-- The transposed subject pointers at an entry. -/
theorem V_v11 (c : Dev nD) (s : Fin 77) (b : Fin 1024) :
    V m c main_v11 (ix3 s 0 b) = m ((c : Thread nD τ).loc main_arg3) (ix2 b s) := by
  simp only [V, V0, List.flatten_cons, List.flatten_nil, List.append_nil]
  after_reads_simp
  pointwise

/-- The transposed object pointers at an entry. -/
theorem V_v13 (c : Dev nD) (s : Fin 77) (b : Fin 1024) :
    V m c main_v13 (ix3 s 0 b) = m ((c : Thread nD τ).loc main_arg4) (ix2 b s) := by
  simp only [V, V0, List.flatten_cons, List.flatten_nil, List.append_nil]
  after_reads_simp
  pointwise

/-- The first weight at an entry. -/
theorem V_v14 (c : Dev nD) (s : Fin 512) (b : Fin 768) :
    V m c main_v14 (ix2 s b) = m ((c : Thread nD τ).loc main_arg5) (ix2 s b) := by
  simp only [V, V0, List.flatten_cons, List.flatten_nil, List.append_nil]
  after_reads_simp
  pointwise

/-- The first bias at an entry. -/
theorem V_v15 (c : Dev nD) (b : Fin 768) :
    V m c main_v15 (ix2 0 b) = m ((c : Thread nD τ).loc main_arg6) (ix1 b) := by
  simp only [V, V0, List.flatten_cons, List.flatten_nil, List.append_nil]
  after_reads_simp
  pointwise

/-- The second weight at an entry. -/
theorem V_v16 (c : Dev nD) (s : Fin 768) (b : Fin 768) :
    V m c main_v16 (ix2 s b) = m ((c : Thread nD τ).loc main_arg7) (ix2 s b) := by
  simp only [V, V0, List.flatten_cons, List.flatten_nil, List.append_nil]
  after_reads_simp
  pointwise

/-- The second bias at an entry. -/
theorem V_v17 (c : Dev nD) (b : Fin 768) :
    V m c main_v17 (ix2 0 b) = m ((c : Thread nD τ).loc main_arg8) (ix1 b) := by
  simp only [V, V0, List.flatten_cons, List.flatten_nil, List.append_nil]
  after_reads_simp
  pointwise

/-- The absolute position table at an entry. -/
theorem V_v18 (c : Dev nD) (s : Fin 77) (b : Fin 768) :
    V m c main_v18 (ix3 s 0 b) = m ((c : Thread nD τ).loc main_arg9) (ix2 s b) := by
  simp only [V, V0, List.flatten_cons, List.flatten_nil, List.append_nil]
  after_reads_simp
  pointwise

end Cert.KernelIdeal.Value
-- ==== Proof.Blocks.lean ====
module

public import proofs.«01_k».proof.Proof.Gen.KernelIdeal.Frame
public import proofs.«01_k».proof.Proof.HostReads
public import Idealize.ShloMosaic.Lib.Pipeline.ValueKit

@[expose] public section

set_option maxRecDepth 16384

noncomputable section

/-! Each window's block, read at an entry, as an entry of the program's argument. -/

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Where each window stands at a step of the grid. -/
theorem idx : ∀ t : Fin cfg0.N, win0_0.index t = ![(grid0.coords t 0).val, (grid0.coords t 1).val, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![0, 0] ∧ win0_6.index t = ![0, 0] ∧ win0_7.index t = ![0, 0] ∧ win0_8.index t = ![0, 0]
    ∧ win0_9.index t = ![0, 0] ∧ win0_10.index t = ![(grid0.coords t 0).val, 0, 0]
    ∧ win0_11.index t = ![(grid0.coords t 0).val, (grid0.coords t 1).val, 0]
    ∧ win0_12.index t = ![(grid0.coords t 0).val, (grid0.coords t 1).val, 0] :=
  (by decide +kernel : ∀ t : Fin grid0.N, _)

/-- The sequence position a step works at. -/
def pos (t : Fin cfg0.N) : Fin 77 := grid0.coords t 0

/-- The batch entry that row `r` of a step's block holds. -/
def bat (t : Fin cfg0.N) (r : Fin 512) : Fin 1024 :=
  ⟨(grid0.coords t 1).val * 512 + r.val, by
    have h : (grid0.coords t 1).val < 2 := (grid0.coords t 1).isLt
    omega⟩

/-- The input's block. -/
theorem iblk_0 (c : Dev nD) (t : Fin cfg0.N) (r : Fin 512) (d : Fin 512) :
    iblk m c 0 t (ix3 0 r d) = m ((c : Thread nD τ).loc main_arg0) (ix3 (bat t r) (pos t) d) := by
  refine Eq.trans ?_ (V_v5 m c _ _ _)
  blk_ext [iblk, idx t, bat, pos]

/-- The token types' block. -/
theorem iblk_1 (c : Dev nD) (t : Fin cfg0.N) (r : Fin 512) :
    iblk m c 1 t (ix3 0 0 r) = m ((c : Thread nD τ).loc main_arg1) (ix2 (bat t r) (pos t)) := by
  refine Eq.trans ?_ (V_v7 m c _ _)
  blk_ext [iblk, idx t, bat, pos]

/-- The object indices' block. -/
theorem iblk_2 (c : Dev nD) (t : Fin cfg0.N) (r : Fin 512) :
    iblk m c 2 t (ix3 0 0 r) = m ((c : Thread nD τ).loc main_arg2) (ix2 (bat t r) (pos t)) := by
  refine Eq.trans ?_ (V_v9 m c _ _)
  blk_ext [iblk, idx t, bat, pos]

/-- The subject pointers' block. -/
theorem iblk_3 (c : Dev nD) (t : Fin cfg0.N) (r : Fin 512) :
    iblk m c 3 t (ix3 0 0 r) = m ((c : Thread nD τ).loc main_arg3) (ix2 (bat t r) (pos t)) := by
  refine Eq.trans ?_ (V_v11 m c _ _)
  blk_ext [iblk, idx t, bat, pos]

/-- The object pointers' block. -/
theorem iblk_4 (c : Dev nD) (t : Fin cfg0.N) (r : Fin 512) :
    iblk m c 4 t (ix3 0 0 r) = m ((c : Thread nD τ).loc main_arg4) (ix2 (bat t r) (pos t)) := by
  refine Eq.trans ?_ (V_v13 m c _ _)
  blk_ext [iblk, idx t, bat, pos]

/-- The first weight's block: all of it. -/
theorem iblk_5 (c : Dev nD) (t : Fin cfg0.N) (d : Fin 512) (k : Fin 768) :
    iblk m c 5 t (ix2 d k) = m ((c : Thread nD τ).loc main_arg5) (ix2 d k) := by
  refine Eq.trans ?_ (V_v14 m c _ _)
  blk_ext [iblk, idx t, bat, pos]

/-- The first bias's block: all of it. -/
theorem iblk_6 (c : Dev nD) (t : Fin cfg0.N) (k : Fin 768) :
    iblk m c 6 t (ix2 0 k) = m ((c : Thread nD τ).loc main_arg6) (ix1 k) := by
  refine Eq.trans ?_ (V_v15 m c _)
  blk_ext [iblk, idx t, bat, pos]

/-- The second weight's block: all of it. -/
theorem iblk_7 (c : Dev nD) (t : Fin cfg0.N) (d : Fin 768) (k : Fin 768) :
    iblk m c 7 t (ix2 d k) = m ((c : Thread nD τ).loc main_arg7) (ix2 d k) := by
  refine Eq.trans ?_ (V_v16 m c _ _)
  blk_ext [iblk, idx t, bat, pos]

/-- The second bias's block: all of it. -/
theorem iblk_8 (c : Dev nD) (t : Fin cfg0.N) (k : Fin 768) :
    iblk m c 8 t (ix2 0 k) = m ((c : Thread nD τ).loc main_arg8) (ix1 k) := by
  refine Eq.trans ?_ (V_v17 m c _)
  blk_ext [iblk, idx t, bat, pos]

/-- The absolute position table's block: the step's row. -/
theorem iblk_10 (c : Dev nD) (t : Fin cfg0.N) (k : Fin 768) :
    iblk m c 10 t (ix3 0 0 k) = m ((c : Thread nD τ).loc main_arg9) (ix2 (pos t) k) := by
  refine Eq.trans ?_ (V_v18 m c _ _)
  blk_ext [iblk, idx t, bat, pos]

/-- The stacked table's block: all of it. -/
theorem iblk_9 (c : Dev nD) (t : Fin cfg0.N) (x : Fin 528) (k : Fin 768) :
    iblk m c 9 t (ix2 x k) = V m c main_v4 (ix2 x k) := by
  blk_ext [iblk, idx t]

/-- Where an entry of result window 11's block stands in the array. -/
theorem emb_11 (t : Fin cfg0.N) (y : S1x512x768.Idx) :
    ((View.whole main_v19_0).slice (win0_11.rect t)).emb y = ix3 (pos t) (bat t (y 1)) (y 2) := by
  show (win0_11.blk t).view.emb y = _
  blk_ext [idx t, bat, pos]

/-- Where an entry of result window 12's block stands in the array. -/
theorem emb_12 (t : Fin cfg0.N) (y : S1x512x768.Idx) :
    ((View.whole main_v19_1).slice (win0_12.rect t)).emb y = ix3 (pos t) (bat t (y 1)) (y 2) := by
  show (win0_12.blk t).view.emb y = _
  blk_ext [idx t, bat, pos]

end Cert.KernelIdeal.Value
-- ==== Proof.Final.lean ====
module

public import proofs.«01_k».proof.Proof.Gen.KernelIdeal.Frame
public import proofs.«01_k».proof.Proof.Spec
public import proofs.«01_k».proof.Proof.Blocks
public import Idealize.ShloMosaic.Lib.Pipeline.ValueKit

@[expose] public section

set_option maxRecDepth 16384

noncomputable section

/-! The two arrays the launch leaves, element by element. -/

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The adapter's output at an entry, of the arguments on device `c`. -/
def cleanAt (c : Dev nD) (b : Fin 1024) (s : Fin 77) (e : Fin 768) : EReal :=
  Spec.clean (m ((c : Thread nD τ).loc main_arg0)) (m ((c : Thread nD τ).loc main_arg5)) (m ((c : Thread nD τ).loc main_arg6))
    (m ((c : Thread nD τ).loc main_arg7)) (m ((c : Thread nD τ).loc main_arg8)) b s e

/-- The embedding term at an entry, of the arguments on device `c`. -/
def lookedAt (c : Dev nD) (b : Fin 1024) (s : Fin 77) (e : Fin 768) : EReal :=
  Spec.looked (BitVec.ofNat 32 s.val) (m ((c : Thread nD τ).loc main_arg1) (ix2 b s))
      (m ((c : Thread nD τ).loc main_arg2) (ix2 b s)) (m ((c : Thread nD τ).loc main_arg3) (ix2 b s))
      (m ((c : Thread nD τ).loc main_arg4) (ix2 b s)) (fun x => V m c main_v4 (ix2 x e))

/-- The first result array of the launch, position by position. -/
theorem final11 (c : Dev nD) : (dats m 0 c).arrAt 11 (cfgs 0).N = fun i : S77x1024x768.Idx => cleanAt m c (i 1) (i 0) (i 2) := by
  refine (dats m 0 c).arrAt_eq_of_covers 11 _ (by decide +kernel) fun t _ y => ?_
  blk_simp
  rw [after0_11]; frame_out
  revert y; change ∀ y : S1x512x768.Idx, _; intro y; idx_vars y
  rw [show (win0_11.blk t).view.emb (ix3 _ _ _) = _ from emb_11 t _]
  pointwise [k0_pay3, k0_pay2]
  simp only [iblk_0, iblk_5, iblk_6, iblk_7, iblk_8]
  rfl

/-- The second result array of the launch, position by position. -/
theorem final12 (c : Dev nD) : (dats m 0 c).arrAt 12 (cfgs 0).N = fun i : S77x1024x768.Idx =>
    cleanAt m c (i 1) (i 0) (i 2) + lookedAt m c (i 1) (i 0) (i 2)
    + m ((c : Thread nD τ).loc main_arg9) (ix2 (i 0) (i 2)) := by
  refine (dats m 0 c).arrAt_eq_of_covers 12 _ (by decide +kernel) fun t _ y => ?_
  blk_simp
  rw [after0_12]; frame_out
  revert y; change ∀ y : S1x512x768.Idx, _; intro y; idx_vars y
  rw [show (win0_12.blk t).view.emb (ix3 _ _ _) = _ from emb_12 t _]
  pointwise [k0_pay1, k0_pay2, k0_pay4, k0_pay5, k0_pay6, k0_pay7, k0_pay8, k0_pay9, k0_pay10, k0_pay11, k0_pay12, k0_pay13]
  simp only [iblk_0, iblk_1, iblk_2, iblk_3, iblk_4, iblk_5, iblk_6, iblk_7, iblk_8, iblk_9, iblk_10]
  rfl

end Cert.KernelIdeal.Value
-- ==== Proof.KernelRun.lean ====
module

public import proofs.«01_k».proof.Proof.Gen.KernelIdeal.Frame
public import proofs.«01_k».proof.Proof.Final
public import Idealize.ShloMosaic.Lib.Claim
public import Idealize.ShloMosaic.Lib.StableHlo.RunRead

@[expose] public section

set_option maxRecDepth 16384

noncomputable section

/-! The kernel program's two results, element by element. -/

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The kernel's first result. -/
def out0 (c : Dev nD) : FVec Ideal S1024x77x768 .f32 := fun i => cleanAt m c (i 0) (i 1) (i 2)

/-- The kernel's second result. -/
def out1 (c : Dev nD) : FVec Ideal S1024x77x768 .f32 := fun i =>
  cleanAt m c (i 0) (i 1) (i 2) + lookedAt m c (i 0) (i 1) (i 2) + m ((c : Thread nD τ).loc main_arg9) (ix2 (i 1) (i 2))

/-- No two windows stand on one array. -/
theorem arr_inj : Function.Injective (Pipeline.arrRef (cfgs 0).spec) :=
  (by decide : Function.Injective (Pipeline.arrRef spec0))

/-- The first result is the first array of the launch, its axes put back in order. -/
theorem tail_v20 (c : Dev nD) : Pipeline.afterTail₀ cfgs (dats m) 0 (V0 m) [hostOps1] c main_v20 = out0 m c := by
  have hA := Pipeline.withArrays_arr (cfgs 0).spec arr_inj c (V0 m c) (fun w => (dats m 0 c).arrAt w (cfgs 0).N) 11
  rw [final11] at hA
  unfold Pipeline.afterTail₀
  simp only [List.flatten_cons, List.flatten_nil, List.append_nil]
  generalize Pipeline.withArrays (cfgs 0).spec c (V0 m c) (fun w => (dats m 0 c).arrAt w (cfgs 0).N) = W at hA ⊢
  after_reads_simp
  funext j
  idx_vars j
  have h := congrFun (show W (Proc.devRef .tc main_v19_0) = _ from hA)
  pointwise
  rw [h]
  rfl

/-- The second result is the second array of the launch, its axes put back in order. -/
theorem tail_v21 (c : Dev nD) : Pipeline.afterTail₀ cfgs (dats m) 0 (V0 m) [hostOps1] c main_v21 = out1 m c := by
  have hA := Pipeline.withArrays_arr (cfgs 0).spec arr_inj c (V0 m c) (fun w => (dats m 0 c).arrAt w (cfgs 0).N) 12
  rw [final12] at hA
  unfold Pipeline.afterTail₀
  simp only [List.flatten_cons, List.flatten_nil, List.append_nil]
  generalize Pipeline.withArrays (cfgs 0).spec c (V0 m c) (fun w => (dats m 0 c).arrAt w (cfgs 0).N) = W at hA ⊢
  after_reads_simp
  funext j
  idx_vars j
  have h := congrFun (show W (Proc.devRef .tc main_v19_1) = _ from hA)
  pointwise
  rw [h]
  rfl

/-- Every run of the kernel program ends with its results at `out0` and `out1`. -/
theorem results (ρ : Dev nD → PrngReg) : θ_run defs (onTc (τ := τ) (main (F := Ideal))) ⟨m, fun _ => 0, ρ⟩ fun r => ∀ c : Dev nD,
    r.2.mem ((c : Thread nD τ).loc main_v20) = out0 m c ∧ r.2.mem ((c : Thread nD τ).loc main_v21) = out1 m c :=
  (θ_run defs _ _).mono (fun _ h c =>
    ⟨((h c).2 main_v20 (Pipeline.mem_restRefs_of main_v20 (by decide) (by decide))).trans (tail_v20 m c),
     ((h c).2 main_v21 (Pipeline.mem_restRefs_of main_v21 (by decide) (by decide))).trans (tail_v21 m c)⟩) (run_main m ρ)

end Cert.KernelIdeal.Value
-- ==== Proof.Table.lean ====
module

public import proofs.«01_k».proof.Proof.Gen.KernelIdeal.Frame
public import Idealize.ShloMosaic.Lib.Claim
public import Idealize.ShloMosaic.Lib.StableHlo.RunRead
public import Idealize.ShloMosaic.Lib.Pipeline.ValueKit

@[expose] public section

set_option maxRecDepth 16384

noncomputable section

/-! The kernel's one table: five embedding tables stacked, rows of zeros between them. -/

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The stacked table as a function of its ten parts. -/
def table (p0 : FVec Ideal S100x768 .f32) (p1 : FVec Ideal S4x768 .f32) (p2 : FVec Ideal S100x768 .f32) (p3 : FVec Ideal S4x768 .f32)
    (p4 : FVec Ideal S100x768 .f32) (p5 : FVec Ideal S4x768 .f32) (p6 : FVec Ideal S201x768 .f32) (p7 : FVec Ideal S7x768 .f32)
    (p8 : FVec Ideal S2x768 .f32) (p9 : FVec Ideal S6x768 .f32) : FVec Ideal S528x768 .bf16 :=
  truncf .bf16 (concatenate S528x768 0 [⟨S100x768, p0⟩, ⟨S4x768, p1⟩, ⟨S100x768, p2⟩, ⟨S4x768, p3⟩, ⟨S100x768, p4⟩, ⟨S4x768, p5⟩,
    ⟨S201x768, p6⟩, ⟨S7x768, p7⟩, ⟨S2x768, p8⟩, ⟨S6x768, p9⟩]
    Facts₀.concatenates_S100x768_S4x768_S100x768_S4x768_S100x768_S4x768_S201x768_S7x768_S2x768_S6x768_S528x768_d0)

/-- Equal parts stack to equal tables. -/
theorem table_congr {p0 q0 : FVec Ideal S100x768 .f32} {p1 q1 : FVec Ideal S4x768 .f32} {p2 q2 : FVec Ideal S100x768 .f32} {p3 q3 : FVec Ideal S4x768 .f32} {p4 q4 : FVec Ideal S100x768 .f32} {p5 q5 : FVec Ideal S4x768 .f32} {p6 q6 : FVec Ideal S201x768 .f32} {p7 q7 : FVec Ideal S7x768 .f32} {p8 q8 : FVec Ideal S2x768 .f32} {p9 q9 : FVec Ideal S6x768 .f32}
    (h0 : p0 = q0) (h1 : p1 = q1) (h2 : p2 = q2) (h3 : p3 = q3) (h4 : p4 = q4) (h5 : p5 = q5) (h6 : p6 = q6) (h7 : p7 = q7) (h8 : p8 = q8) (h9 : p9 = q9) :
    table p0 p1 p2 p3 p4 p5 p6 p7 p8 p9 = table q0 q1 q2 q3 q4 q5 q6 q7 q8 q9 := by
  subst h0 h1 h2 h3 h4 h5 h6 h7 h8 h9
  rfl

/-- The launch's table is the stack of the five embedding tables, with something between them. -/
theorem V_v4 (c : Dev nD) : ∃ (z1 z3 z5 : FVec Ideal S4x768 .f32) (z7 : FVec Ideal S7x768 .f32) (z9 : FVec Ideal S6x768 .f32),
    V m c main_v4 = table (m ((c : Thread nD τ).loc main_arg11)) z1 (m ((c : Thread nD τ).loc main_arg12)) z3
      (m ((c : Thread nD τ).loc main_arg13)) z5 (m ((c : Thread nD τ).loc main_arg14)) z7
      (m ((c : Thread nD τ).loc main_arg10)) z9 := by
  refine ⟨StableHlo.upto hostOps0 (fun b => m (c, b)) 6 (Proc.tc.devRef main_v0),
    StableHlo.upto hostOps0 (fun b => m (c, b)) 6 (Proc.tc.devRef main_v0),
    StableHlo.upto hostOps0 (fun b => m (c, b)) 6 (Proc.tc.devRef main_v0),
    StableHlo.upto hostOps0 (fun b => m (c, b)) 6 (Proc.tc.devRef main_v1),
    StableHlo.upto hostOps0 (fun b => m (c, b)) 6 (Proc.tc.devRef main_v2), ?_⟩
  simp only [V, V0, List.flatten_cons, List.flatten_nil, List.append_nil]
  after_reads_simp
  show table _ _ _ _ _ _ _ _ _ _ = _
  refine table_congr ?_ rfl ?_ rfl ?_ rfl ?_ rfl ?_ rfl
  · show StableHlo.upto hostOps0 _ 6 (Proc.tc.devRef main_arg11) = _
    after_reads_simp
  · show StableHlo.upto hostOps0 _ 6 (Proc.tc.devRef main_arg12) = _
    after_reads_simp
  · show StableHlo.upto hostOps0 _ 6 (Proc.tc.devRef main_arg13) = _
    after_reads_simp
  · show StableHlo.upto hostOps0 _ 6 (Proc.tc.devRef main_arg14) = _
    after_reads_simp
  · show StableHlo.upto hostOps0 _ 6 (Proc.tc.devRef main_arg10) = _
    after_reads_simp

variable (p0 : FVec Ideal S100x768 .f32) (p1 : FVec Ideal S4x768 .f32) (p2 : FVec Ideal S100x768 .f32) (p3 : FVec Ideal S4x768 .f32) (p4 : FVec Ideal S100x768 .f32) (p5 : FVec Ideal S4x768 .f32) (p6 : FVec Ideal S201x768 .f32) (p7 : FVec Ideal S7x768 .f32) (p8 : FVec Ideal S2x768 .f32) (p9 : FVec Ideal S6x768 .f32)

/-- A row of the first part. -/
theorem table_self (x : Fin 528) (k : Fin 100) (e : Fin 768) (h : x.val = 0 + k.val) :
    table p0 p1 p2 p3 p4 p5 p6 p7 p8 p9 (ix2 x e) = p0 (ix2 k e) := by
  unfold table
  pointwise
  have hk := k.isLt
  rw [dif_pos (by omega)]
  exact congrArg (fun z => p0 (ix2 z e)) (Fin.ext (by show _ = k.val; dsimp only; omega))

/-- A row of the subject part. -/
theorem table_sub (x : Fin 528) (k : Fin 100) (e : Fin 768) (h : x.val = 104 + k.val) :
    table p0 p1 p2 p3 p4 p5 p6 p7 p8 p9 (ix2 x e) = p2 (ix2 k e) := by
  unfold table
  pointwise
  have hk := k.isLt
  rw [dif_neg (by omega), dif_neg (by omega), dif_pos (by omega)]
  exact congrArg (fun z => p2 (ix2 z e)) (Fin.ext (by show _ = k.val; dsimp only; omega))

/-- A row of the object part. -/
theorem table_obj (x : Fin 528) (k : Fin 100) (e : Fin 768) (h : x.val = 208 + k.val) :
    table p0 p1 p2 p3 p4 p5 p6 p7 p8 p9 (ix2 x e) = p4 (ix2 k e) := by
  unfold table
  pointwise
  have hk := k.isLt
  rw [dif_neg (by omega), dif_neg (by omega), dif_neg (by omega), dif_neg (by omega), dif_pos (by omega)]
  exact congrArg (fun z => p4 (ix2 z e)) (Fin.ext (by show _ = k.val; dsimp only; omega))

/-- A row of the distance part. -/
theorem table_rel (x : Fin 528) (k : Fin 201) (e : Fin 768) (h : x.val = 312 + k.val) :
    table p0 p1 p2 p3 p4 p5 p6 p7 p8 p9 (ix2 x e) = p6 (ix2 k e) := by
  unfold table
  pointwise
  have hk := k.isLt
  rw [dif_neg (by omega), dif_neg (by omega), dif_neg (by omega), dif_neg (by omega), dif_neg (by omega), dif_neg (by omega), dif_pos (by omega)]
  exact congrArg (fun z => p6 (ix2 z e)) (Fin.ext (by show _ = k.val; dsimp only; omega))

/-- A row of the type part. -/
theorem table_type (x : Fin 528) (k : Fin 2) (e : Fin 768) (h : x.val = 520 + k.val) :
    table p0 p1 p2 p3 p4 p5 p6 p7 p8 p9 (ix2 x e) = p8 (ix2 k e) := by
  unfold table
  pointwise
  have hk := k.isLt
  rw [dif_neg (by omega), dif_neg (by omega), dif_neg (by omega), dif_neg (by omega), dif_neg (by omega), dif_neg (by omega), dif_neg (by omega), dif_neg (by omega), dif_pos (by omega)]
  exact congrArg (fun z => p8 (ix2 z e)) (Fin.ext (by show _ = k.val; dsimp only; omega))

end Cert.KernelIdeal.Value
-- ==== Proof.Words.lean ====
module

public import proofs.«01_k».proof.Proof.Spec
public import Idealize.ShloMosaic.Lib.Claim
public import Idealize.ShloMosaic.Lib.Pointwise
public import Idealize.ShloMosaic.Lib.WordCmp

@[expose] public section

set_option maxRecDepth 16384

noncomputable section

/-! The words of the multi-hot column at arguments in range, and what the column times the table is there. -/

namespace Cert.Spec

open Idealize.ShloMosaic Cert.KernelIdeal

/-- A one-hot entry at a natural number. -/
theorem hot_ofNat (k n : ℕ) (hk : k < 2 ^ 32) (hn : n < 2 ^ 32) : hot k (BitVec.ofNat 32 n) = if k = n then 1 else 0 := by
  change (((BitVec.setWidth 32 (IntOp.cmpi CmpIPredicate.eq (BitVec.ofNat 32 k) (BitVec.ofNat 32 n))).toInt : ℝ) : EReal) = _
  by_cases h : k = n
  · subst h
    rw [if_pos rfl, show IntOp.cmpi CmpIPredicate.eq (BitVec.ofNat 32 k) (BitVec.ofNat 32 k) = 1#1 by simp [IntOp.cmpi]]
    norm_num [show (BitVec.setWidth 32 1#1).toInt = 1 from by decide]
  · have hne : BitVec.ofNat 32 k ≠ BitVec.ofNat 32 n := by
      intro e
      have := congrArg BitVec.toNat e
      rw [WordCmp.toNat_ofNat_of_lt hk, WordCmp.toNat_ofNat_of_lt hn] at this
      exact h this
    rw [if_neg h, show IntOp.cmpi CmpIPredicate.eq (BitVec.ofNat 32 k) (BitVec.ofNat 32 n) = 0#1 by
      simp only [IntOp.cmpi]; rw [beq_eq_false_iff_ne.mpr hne]; rfl]
    norm_num [show (BitVec.setWidth 32 0#1).toInt = 0 from by decide]

/-- At an object position the first part's row is the object's index. -/
theorem rowA_zero (sp : BitVec 32) : ∀ oi : Fin 100, rowA 0#32 (BitVec.ofNat 32 oi.val) sp = BitVec.ofNat 32 oi.val := by
  intro oi
  exact (show ∀ oi : Fin 100, IntOp.minsi (BitVec.ofNat 32 oi.val) 99#32 = BitVec.ofNat 32 oi.val by decide +kernel) oi

/-- At a relation position the first part's row is the subject's, after the objects. -/
theorem rowA_one (oi : BitVec 32) : ∀ sp : Fin 100, rowA 1#32 oi (BitVec.ofNat 32 sp.val) = BitVec.ofNat 32 (sp.val + 104) := by
  intro sp
  exact (show ∀ p : Fin 100, IntOp.addi (IntOp.minsi (BitVec.ofNat 32 p.val) 99#32) 104#32
    = BitVec.ofNat 32 (p.val + 104) by decide +kernel) sp

/-- No relation row at an object position. -/
theorem rowRel_zero (w : BitVec 32) : rowRel 0#32 w = BitVec.ofNat 32 4294967295 := rfl

/-- At a relation position the row is the given one. -/
theorem rowRel_one (w : BitVec 32) : rowRel 1#32 w = w := rfl

/-- The clip of a pointer does nothing in range. -/
theorem min99 : ∀ p : Fin 100, IntOp.minsi (BitVec.ofNat 32 p.val) 99#32 = BitVec.ofNat 32 p.val := by
  decide +kernel

/-- The distance row in range: no clip is met. -/
theorem dist_eq : ∀ (s : Fin 77) (p : Fin 100),
    dist (BitVec.ofNat 32 s.val) (BitVec.ofNat 32 p.val) = BitVec.ofNat 32 (s.val + 100 - p.val) := by
  decide +kernel

/-- A sum against one indicator picks one row. -/
theorem sum_ind (T : Fin 528 → EReal) (k : Fin 528) :
    ∑ x : Fin 528, (if x.val = k.val then (1 : EReal) else 0) * T x = T k := by
  rw [Finset.sum_eq_single k]
  · rw [if_pos rfl, one_mul]
  · intro x _ hx
    rw [if_neg (fun h => hx (Fin.ext h)), zero_mul]
  · intro h
    exact absurd (Finset.mem_univ _) h

/-- An indicator is not negative. -/
theorem ind_nonneg (P : Prop) [Decidable P] : (0 : EReal) ≤ if P then 1 else 0 := by
  split_ifs
  · exact zero_le_one
  · exact le_refl _

/-- At an object position: the object's row and the type's. -/
theorem looked_zero (s : Fin 77) (oi sp op : Fin 100) (T : Fin 528 → EReal) (a b : Fin 528)
    (ha : a.val = oi.val) (hb : b.val = 520) :
    looked (BitVec.ofNat 32 s.val) 0#32 (BitVec.ofNat 32 oi.val) (BitVec.ofNat 32 sp.val) (BitVec.ofNat 32 op.val) T
      = T a + T b := by
  rw [← sum_ind T a, ← sum_ind T b, ← Finset.sum_add_distrib]
  unfold looked
  refine Finset.sum_congr rfl fun x _ => ?_
  rw [← EReal.right_distrib_of_nonneg (ind_nonneg _) (ind_nonneg _)]
  congr 1
  have hx := x.isLt
  have ho := oi.isLt
  rw [ha, hb, rowA_zero, rowRel_zero, rowRel_zero, rowRel_zero,
    show IntOp.minsi 1#32 (IntOp.maxsi 0#32 0#32) = BitVec.ofNat 32 0 from rfl,
    hot_ofNat _ _ (by omega) (by omega), hot_ofNat _ _ (by omega) (by omega), hot_ofNat _ _ (by omega) (by omega),
    hot_ofNat _ _ (by omega) (by omega)]
  by_cases h1 : x.val < 208
  · rw [dif_pos h1, if_neg (show ¬ x.val = 520 by omega), add_zero]
  rw [dif_neg h1, if_neg (show ¬ x.val = oi.val by omega), zero_add]
  by_cases h2 : x.val - 208 < 104
  · rw [dif_pos h2, if_neg (by omega), if_neg (by omega)]
  rw [dif_neg h2]
  by_cases h3 : x.val - 208 - 104 < 208
  · rw [dif_pos h3, if_neg (by omega), if_neg (by omega), add_zero]
  rw [dif_neg h3]
  exact if_congr (by omega) rfl rfl

/-- At a relation position: the subject's row, the object's, the two distances' and the type's. -/
theorem looked_one (s : Fin 77) (oi sp op : Fin 100) (T : Fin 528 → EReal) (a b c d e : Fin 528)
    (ha : a.val = sp.val + 104) (hb : b.val = 208 + op.val) (hc : c.val = 312 + (s.val + 100 - sp.val))
    (hd : d.val = 312 + (s.val + 100 - op.val)) (he : e.val = 521) :
    looked (BitVec.ofNat 32 s.val) 1#32 (BitVec.ofNat 32 oi.val) (BitVec.ofNat 32 sp.val) (BitVec.ofNat 32 op.val) T
      = T a + T b + (T c + T d) + T e := by
  rw [← sum_ind T a, ← sum_ind T b, ← sum_ind T c, ← sum_ind T d, ← sum_ind T e, ← Finset.sum_add_distrib,
    ← Finset.sum_add_distrib, ← Finset.sum_add_distrib, ← Finset.sum_add_distrib]
  unfold looked
  refine Finset.sum_congr rfl fun x _ => ?_
  rw [← EReal.right_distrib_of_nonneg (ind_nonneg _) (ind_nonneg _),
    ← EReal.right_distrib_of_nonneg (ind_nonneg _) (ind_nonneg _),
    ← EReal.right_distrib_of_nonneg (add_nonneg (ind_nonneg _) (ind_nonneg _)) (add_nonneg (ind_nonneg _) (ind_nonneg _)),
    ← EReal.right_distrib_of_nonneg (add_nonneg (add_nonneg (ind_nonneg _) (ind_nonneg _))
      (add_nonneg (ind_nonneg _) (ind_nonneg _))) (ind_nonneg _)]
  congr 1
  have hx := x.isLt
  have hs := s.isLt
  have hp := sp.isLt
  have hq := op.isLt
  rw [ha, hb, hc, hd, he, rowA_one, rowRel_one, rowRel_one, rowRel_one, min99, dist_eq, dist_eq,
    show IntOp.minsi 1#32 (IntOp.maxsi 0#32 1#32) = BitVec.ofNat 32 1 from rfl,
    hot_ofNat _ _ (by omega) (by omega), hot_ofNat _ _ (by omega) (by omega), hot_ofNat _ _ (by omega) (by omega),
    hot_ofNat _ _ (by omega) (by omega), hot_ofNat _ _ (by omega) (by omega)]
  by_cases h1 : x.val < 208
  · rw [dif_pos h1, if_neg (show ¬ x.val = 208 + op.val by omega),
      if_neg (show ¬ x.val = 312 + (s.val + 100 - sp.val) by omega),
      if_neg (show ¬ x.val = 312 + (s.val + 100 - op.val) by omega), if_neg (show ¬ x.val = 521 by omega),
      add_zero, add_zero, add_zero, add_zero]
  rw [dif_neg h1, if_neg (show ¬ x.val = sp.val + 104 by omega), zero_add]
  by_cases h2 : x.val - 208 < 104
  · rw [dif_pos h2, if_neg (show ¬ x.val = 312 + (s.val + 100 - sp.val) by omega),
      if_neg (show ¬ x.val = 312 + (s.val + 100 - op.val) by omega), if_neg (show ¬ x.val = 521 by omega),
      add_zero, add_zero, add_zero]
    exact if_congr (by omega) rfl rfl
  rw [dif_neg h2, if_neg (show ¬ x.val = 208 + op.val by omega), zero_add]
  by_cases h3 : x.val - 208 - 104 < 208
  · rw [dif_pos h3, if_neg (show ¬ x.val = 521 by omega), add_zero]
    exact congrArg₂ _ (if_congr (by omega) rfl rfl) (if_congr (by omega) rfl rfl)
  rw [dif_neg h3, if_neg (show ¬ x.val = 312 + (s.val + 100 - sp.val) by omega),
    if_neg (show ¬ x.val = 312 + (s.val + 100 - op.val) by omega), add_zero, zero_add]
  exact if_congr (by omega) rfl rfl

end Cert.Spec
-- ==== Proof.Take.lean ====
module

public import proofs.«01_k».proof.Proof.Gen.ReferenceIdeal
public import Idealize.ShloMosaic.Lib.Claim
public import Idealize.ShloMosaic.Lib.Pointwise

@[expose] public section

set_option maxRecDepth 16384

noncomputable section

/-! The reference's row lookups, read at an entry. -/

open Idealize.ShloMosaic Idealize.ShloMosaic.TcCoe Idealize.SL.Sem

namespace Cert.Take

open Cert.ReferenceIdeal Cert.ReferenceIdeal.Gen

/-- A lookup's row numbers are read at the position itself. -/
theorem at_pos (n : ℕ) (wf : GatherDims.WF ⟨2, ![n, 768]⟩ S1024x77x1 S1024x77x768 [2] [0] [] [0] [] 2 ![1, 768])
    (p : Fin 1024) (q : Fin 77) (y : Fin 768) (k : Fin 1) :
    GatherDims.siIdx (⟨[2], [0], [], [], [0], 2, ![1, 768], wf⟩ : GatherDims ⟨2, ![n, 768]⟩ S1024x77x1 S1024x77x768)
      (ix3 p q y) k = ix3 p q 0 := by
  funext a
  match a with
  | ⟨0, _⟩ => rfl
  | ⟨1, _⟩ => rfl
  | ⟨2, _⟩ => exact Subsingleton.elim (α := Fin 1) _ _

/-- A lookup of whole rows of a table, read at an entry: the row its number names. -/
theorem rows_at {α : Type} (n : ℕ) (wf : GatherDims.WF ⟨2, ![n, 768]⟩ S1024x77x1 S1024x77x768 [2] [0] [] [0] [] 2 ![1, 768])
    (x : (⟨2, ![n, 768]⟩ : Shape).Idx → α) (idx : IVec S1024x77x1 32) (p : Fin 1024) (q : Fin 77) (y : Fin 768) (k : Fin n)
    (hk : idx (ix3 p q 0) = BitVec.ofNat 32 k.val) (hn : n < 2 ^ 31) :
    Host.gather (⟨[2], [0], [], [], [0], 2, ![1, 768], wf⟩ : GatherDims ⟨2, ![n, 768]⟩ S1024x77x1 S1024x77x768) x idx (ix3 p q y)
      = x (ix2 k y) := by
  refine congrArg x (funext fun a => Fin.ext ?_)
  match a with
  | ⟨0, _⟩ =>
    show min (idx (GatherDims.siIdx _ (ix3 p q y) _)).toInt.toNat (n - 1) + 0 + 0 = k.val
    rw [at_pos, hk]
    have hl := k.isLt
    have : (BitVec.ofNat 32 k.val).toInt = k.val := by
      have h32 : (BitVec.ofNat 32 k.val).toNat = k.val := by
        rw [BitVec.toNat_ofNat]
        exact Nat.mod_eq_of_lt (by omega)
      rw [BitVec.toInt_eq_toNat_of_lt (by omega), h32]
    omega
  | ⟨1, _⟩ =>
    show 0 + 0 + y.val = y.val
    omega

/-- The row numbers a lookup reads: the plane `I`, a negative number counted from the table's end. -/
def rowNo (n : ℕ) (I : IVec S1024x77 32) : IVec S1024x77x1 32 :=
  broadcastInDim S1024x77x1 ![0, 1] Facts₀.bcast_S1024x77_S1024x77x1_0_1
    (select (cmpi .slt I (broadcastInDim S1024x77 ![] Facts₀.bcast_S_S1024x77 (constantI S_ 32 0#32)))
      (addi I (broadcastInDim S1024x77 ![] Facts₀.bcast_S_S1024x77 (constantI S_ 32 (BitVec.ofNat 32 n)))) I)

/-- A number in the lower half of the words is its own row number. -/
theorem rowNo_at (n : ℕ) (I : IVec S1024x77 32) (p : Fin 1024) (q : Fin 77) (k : ℕ) (hk : k < 2 ^ 31)
    (hI : I (ix2 p q) = BitVec.ofNat 32 k) : rowNo n I (ix3 p q 0) = BitVec.ofNat 32 k := by
  unfold rowNo
  pointwise
  rw [hI]
  have h : IntOp.cmpi .slt (BitVec.ofNat 32 k) 0#32 = 0#1 := by
    have h1 : (BitVec.ofNat 32 k).toNat = k := by
      rw [BitVec.toNat_ofNat]
      exact Nat.mod_eq_of_lt (by omega)
    have h2 : (BitVec.ofNat 32 k).toInt = k := by
      rw [BitVec.toInt_eq_toNat_of_lt (by omega), h1]
    simp only [IntOp.cmpi, BitVec.slt, h2]
    have : ¬ ((k : ℤ) < (0#32 : BitVec 32).toInt) := by
      simp
    rw [decide_eq_false this]
    rfl
  rw [h]
  rfl

/-- A whole lookup as the reference writes it: the rows, and a fill value where the number is out of range. -/
def look (n : ℕ) (wf : GatherDims.WF ⟨2, ![n, 768]⟩ S1024x77x1 S1024x77x768 [2] [0] [] [0] [] 2 ![1, 768])
    (T : FVec Ideal ⟨2, ![n, 768]⟩ .f32) (I : IVec S1024x77 32) : FVec Ideal S1024x77x768 .f32 :=
  select (broadcastInDim S1024x77x768 ![0, 1] Facts₀.bcast_S1024x77_S1024x77x768_0_1
      (Host.reduce IntOp.andi
        (andi (cmpi .sge (rowNo n I) (broadcastInDim S1024x77x1 ![] Facts₀.bcast_S_S1024x77x1 (constantI S_ 32 0#32)))
          (cmpi .sle (rowNo n I) (broadcastInDim S1024x77x1 ![0, 1, 2] Facts₀.bcast_S1x1x1_S1024x77x1_0_1_2
            (broadcastInDim S1x1x1 ![2] Facts₀.bcast_S1_S1x1x1_2 (constantI S1 32 (BitVec.ofNat 32 (n - 1)))))))
        (constantI S_ 1 1#1) Facts₀.reducesTo_S1024x77x1_S1024x77_d2 Facts₀.h_S_))
    (Host.gather (⟨[2], [0], [], [], [0], 2, ![1, 768], wf⟩ : GatherDims ⟨2, ![n, 768]⟩ S1024x77x1 S1024x77x768) T (rowNo n I))
    (broadcastInDim S1024x77x768 ![] Facts₀.bcast_S_S1024x77x768 (constant S_ .f32 0x7FC00000#32))

/-- A lookup at a number in range is that row. -/
theorem look_at (n : ℕ) (wf : GatherDims.WF ⟨2, ![n, 768]⟩ S1024x77x1 S1024x77x768 [2] [0] [] [0] [] 2 ![1, 768])
    (T : FVec Ideal ⟨2, ![n, 768]⟩ .f32) (I : IVec S1024x77 32) (p : Fin 1024) (q : Fin 77) (y : Fin 768) (k : Fin n)
    (hn : n < 2 ^ 31) (hI : I (ix2 p q) = BitVec.ofNat 32 k.val) : look n wf T I (ix3 p q y) = T (ix2 k y) := by
  have hl := k.isLt
  have hJ := rowNo_at n I p q k.val (by omega) hI
  have hg := rows_at n wf T (rowNo n I) p q y k hJ hn
  unfold look
  pointwise
  have hf : ∀ x : Fin 1, IntOp.andi (IntOp.cmpi .sge (rowNo n I (ix3 p q x)) 0#32)
      (IntOp.cmpi .sle (rowNo n I (ix3 p q x)) (BitVec.ofNat 32 (n - 1))) = 1#1 := by
    intro x
    obtain rfl : x = 0 := Subsingleton.elim _ _
    rw [hJ]
    have w : ∀ j : ℕ, j < 2 ^ 31 → (BitVec.ofNat 32 j).toInt = j := by
      intro j hj
      have h1 : (BitVec.ofNat 32 j).toNat = j := by
        rw [BitVec.toNat_ofNat]
        exact Nat.mod_eq_of_lt (by omega)
      rw [BitVec.toInt_eq_toNat_of_lt (by omega), h1]
    simp only [IntOp.cmpi, BitVec.sle, w k.val (by omega), w (n - 1) (by omega)]
    rw [decide_eq_true (show (0#32 : BitVec 32).toInt ≤ (k.val : ℤ) by simp),
      decide_eq_true (show (k.val : ℤ) ≤ ((n - 1 : ℕ) : ℤ) by omega)]
    rfl
  simp only [hf]
  exact hg

end Cert.Take
-- ==== Proof.Gelu.lean ====
module

public import proofs.«01_k».proof.Proof.Spec
public import Idealize.ShloMosaic.Lib.Claim
public import Idealize.ShloMosaic.Lib.Pointwise

@[expose] public section

set_option maxRecDepth 16384

noncomputable section

/-! The two spellings of the exact GELU are one function. -/

namespace Cert.Spec

open Idealize.ShloMosaic Cert.KernelIdeal

/-- The float `2.0` denotes the real 2. -/
theorem ofBits_two : Ideal.ofBits .f32 0x40000000#32 = ((2 : ℝ) : EReal) := by
  simp [Ideal.ofBits, Ideal.ieee, -EReal.coe_mul]; norm_num

/-- The kernel's named constant is the reciprocal of the root of 2. -/
theorem rsqrt2 : Named.named (F := Ideal) κ "rsqrt2" (φ := .f32) 1060439283#32 = (((Real.sqrt 2)⁻¹ : ℝ) : EReal) :=
  IdealRules.named_const.ideal_named_scalar _ _ _ _ rfl

/-- The reference's spelling: half of `h` times the complementary error function of `-h / √2`. -/
theorem gelu_eq (h : EReal) : Ideal.ofBits FTy.f32 1056964608#32 * h
    * Ideal.erfc (Ideal.div (-h) (Ideal.sqrt (Ideal.ofBits FTy.f32 1073741824#32))) = gelu h := by
  have e : Ideal.div (-h) (Ideal.sqrt (Ideal.ofBits FTy.f32 1073741824#32)) = -(h * (((Real.sqrt 2)⁻¹ : ℝ) : EReal)) := by
    rw [ofBits_two, Ideal.sqrt_coe, if_neg (by norm_num),
      Ideal.div_coe (show Real.sqrt 2 ≠ 0 from (Real.sqrt_pos.mpr (by norm_num)).ne'), one_div, EReal.neg_mul]
  rw [e, Ideal.erfc_neg]
  unfold gelu
  rw [rsqrt2]
  rfl

end Cert.Spec
-- ==== Proof.RefVal.lean ====
module

public import proofs.«01_k».proof.Proof.Take
public import proofs.«01_k».proof.Proof.Gelu
public import proofs.«01_k».proof.Proof.Gen.ReferenceIdeal.Run

@[expose] public section

set_option maxRecDepth 16384

noncomputable section

/-! The two results of the reference, element by element. -/

namespace Cert.ReferenceIdeal.Value

open Idealize.ShloMosaic Cert.Take Cert.ReferenceIdeal Facts₀ Facts

/-- The reference's first result, the adapter's output, as its run states it. -/
def ref0 (V0 : Valuation τ sig (Elt Ideal)) : FVec Ideal S1024x77x768 .f32 :=
  addf (Host.dotGeneral (φ₂ := .f32) dot_S1024x77x768_S768x768_S1024x77x768_2_0_01_1_n_n none (mulf (mulf (broadcastInDim S1024x77x768 ![] bcast_S_S1024x77x768 (constant S_ .f32 0x3F000000#32)) (res_main_v3 V0)) (Host.erfc (Host.divf (Host.negf (res_main_v3 V0)) (broadcastInDim S1024x77x768 ![] bcast_S_S1024x77x768 (Host.sqrt (constant S_ .f32 0x40000000#32)))))) (V0 (Proc.devRef .tc main_arg7))) (broadcastInDim S1024x77x768 ![0, 1, 2] bcast_S1x1x768_S1024x77x768_0_1_2 (broadcastInDim S1x1x768 ![2] bcast_S768_S1x1x768_2 (V0 (Proc.devRef .tc main_arg8))))

/-- The first result is the adapter's output. -/
theorem ref0_at (V0 : Valuation τ sig (Elt Ideal)) (p : Fin 1024) (q : Fin 77) (y : Fin 768) :
    ref0 V0 (ix3 p q y) = Spec.clean (V0 (Proc.devRef .tc main_arg0)) (V0 (Proc.devRef .tc main_arg5))
      (V0 (Proc.devRef .tc main_arg6)) (V0 (Proc.devRef .tc main_arg7)) (V0 (Proc.devRef .tc main_arg8)) p q y := by
  unfold ref0 Spec.clean
  pointwise [res_main_v3]
  simp only [Spec.gelu_eq]
  rfl

/-- A plane of words that selects whole rows of the result. -/
def mask (P : IVec S1024x77 1) : IVec S1024x77x768 1 :=
  broadcastInDim S1024x77x768 ![0, 1, 2] bcast_S1024x77x1_S1024x77x768_0_1_2
    (broadcastInDim S1024x77x1 ![0, 1] bcast_S1024x77_S1024x77x1_0_1 P)

/-- A mask repeats its plane along the last axis. -/
theorem mask_at (P : IVec S1024x77 1) (p : Fin 1024) (q : Fin 77) (y : Fin 768) : mask P (ix3 p q y) = P (ix2 p q) := by
  unfold mask
  pointwise

/-- The sum before the masked terms: the output, its position's row and its type's row. -/
theorem v24_eq (V0 : Valuation τ sig (Elt Ideal)) : res_main_v24 V0
    = addf (addf (ref0 V0) (look 77 gather_S77x768_S1024x77x1_S1024x77x768_2_0_n_n_0_2_1768.wf (V0 (Proc.devRef .tc main_arg9)) (res_main_v20 V0)))
      (look 2 gather_S2x768_S1024x77x1_S1024x77x768_2_0_n_n_0_2_1768.wf (V0 (Proc.devRef .tc main_arg10)) (V0 (Proc.devRef .tc main_arg1))) := rfl

/-- An object position takes its object's row. -/
theorem v32_eq (V0 : Valuation τ sig (Elt Ideal)) : res_main_v32 V0
    = select (mask (cmpi .eq (V0 (Proc.devRef .tc main_arg1)) (broadcastInDim S1024x77 ![] bcast_S_S1024x77 (constantI S_ 32 0#32))))
      (addf (res_main_v24 V0) (look 100 gather_S100x768_S1024x77x1_S1024x77x768_2_0_n_n_0_2_1768.wf (V0 (Proc.devRef .tc main_arg11)) (res_main_v28 V0)))
      (res_main_v24 V0) := rfl

/-- A relation position takes the rows of its subject and its object. -/
theorem v44_eq (V0 : Valuation τ sig (Elt Ideal)) : res_main_v44 V0
    = select (mask (res_main_v34 V0))
      (addf (addf (res_main_v32 V0) (look 100 gather_S100x768_S1024x77x1_S1024x77x768_2_0_n_n_0_2_1768.wf (V0 (Proc.devRef .tc main_arg12)) (res_main_v36 V0)))
        (look 100 gather_S100x768_S1024x77x1_S1024x77x768_2_0_n_n_0_2_1768.wf (V0 (Proc.devRef .tc main_arg13)) (res_main_v39 V0)))
      (res_main_v32 V0) := rfl

/-- The reference's second result: a relation position takes the rows of its two distances as well. -/
def ref1 (V0 : Valuation τ sig (Elt Ideal)) : FVec Ideal S1024x77x768 .f32 :=
  select (mask (res_main_v34 V0))
    (addf (addf (res_main_v44 V0) (look 201 gather_S201x768_S1024x77x1_S1024x77x768_2_0_n_n_0_2_1768.wf (V0 (Proc.devRef .tc main_arg14)) (res_main_v48 V0)))
      (look 201 gather_S201x768_S1024x77x1_S1024x77x768_2_0_n_n_0_2_1768.wf (V0 (Proc.devRef .tc main_arg14)) (res_main_v52 V0)))
    (res_main_v44 V0)

/-- The position word of the position embedding. -/
theorem v20_at (V0 : Valuation τ sig (Elt Ideal)) (p : Fin 1024) (q : Fin 77) :
    (res_main_v20 V0 : IVec S1024x77 32) (ix2 p q) = BitVec.ofNat 32 q.val := by
  unfold res_main_v20 res_main_v18
  pointwise
  exact (show ∀ q : Fin 77, IntOp.minsi (BitVec.ofNat 32 q.val) 76#32 = BitVec.ofNat 32 q.val by decide +kernel) q

/-- The clip of a pointer does nothing in range. -/
theorem min_at (I : IVec S1024x77 32) (p : Fin 1024) (q : Fin 77) (k : Fin 100) (h : I (ix2 p q) = BitVec.ofNat 32 k.val) :
    minsi I (broadcastInDim S1024x77 ![] bcast_S_S1024x77 (constantI S_ 32 99#32)) (ix2 p q) = BitVec.ofNat 32 k.val := by
  pointwise
  rw [h]
  exact (show ∀ k : Fin 100, IntOp.minsi (BitVec.ofNat 32 k.val) 99#32 = BitVec.ofNat 32 k.val by decide +kernel) k

/-- The distance word in range: no clip is met. -/
theorem dist_at (V0 : Valuation τ sig (Elt Ideal)) (I : IVec S1024x77 32) (p : Fin 1024) (q : Fin 77) (k : Fin 100)
    (h : I (ix2 p q) = BitVec.ofNat 32 k.val) :
    addi (minsi (broadcastInDim S1024x77 ![] bcast_S_S1024x77 (id (constantI S_ 32 100#32)))
      (maxsi (broadcastInDim S1024x77 ![] bcast_S_S1024x77 (id (constantI S_ 32 4294967196#32))) (subi (res_main_v18 V0) I)))
      (broadcastInDim S1024x77 ![] bcast_S_S1024x77 (constantI S_ 32 100#32)) (ix2 p q)
      = BitVec.ofNat 32 (q.val + 100 - k.val) := by
  pointwise [id, res_main_v18]
  rw [h]
  exact (show ∀ (q : Fin 77) (k : Fin 100), IntOp.addi (IntOp.minsi 100#32 (IntOp.maxsi 4294967196#32
    (IntOp.subi (BitVec.ofNat 32 q.val) (BitVec.ofNat 32 k.val)))) 100#32 = BitVec.ofNat 32 (q.val + 100 - k.val) by decide +kernel) q k

section

variable (V0 : Valuation τ sig (Elt Ideal)) (p : Fin 1024) (q : Fin 77) (y : Fin 768)

/-- The sum before the masked terms, at an element. -/
theorem v24_at (t : Fin 2) (ht : (V0 (Proc.devRef .tc main_arg1) : IVec S1024x77 32) (ix2 p q) = BitVec.ofNat 32 t.val) :
    (res_main_v24 V0 : FVec Ideal S1024x77x768 .f32) (ix3 p q y)
      = ref0 V0 (ix3 p q y) + (V0 (Proc.devRef .tc main_arg9) : FVec Ideal S77x768 .f32) (ix2 q y)
        + (V0 (Proc.devRef .tc main_arg10) : FVec Ideal S2x768 .f32) (ix2 t y) := by
  rw [v24_eq]
  refine congrArg₂ (fun a b : EReal => a + b) (congrArg₂ (fun a b : EReal => a + b) rfl ?_) ?_
  · exact look_at 77 _ _ _ p q y q (by norm_num) (v20_at V0 p q)
  · exact look_at 2 _ _ _ p q y t (by norm_num) ht

/-- A selection by a mask whose bit is set, or clear, at an element. -/
theorem sel_one (P : IVec S1024x77 1) (A B : FVec Ideal S1024x77x768 .f32) (h : P (ix2 p q) = 1#1) :
    select (mask P) A B (ix3 p q y) = A (ix3 p q y) := by
  change Scalar.select (mask P (ix3 p q y)) _ _ = _
  rw [mask_at, h]
  rfl

/-- A selection by a mask whose bit is clear at an element. -/
theorem sel_zero (P : IVec S1024x77 1) (A B : FVec Ideal S1024x77x768 .f32) (h : P (ix2 p q) = 0#1) :
    select (mask P) A B (ix3 p q y) = B (ix3 p q y) := by
  change Scalar.select (mask P (ix3 p q y)) _ _ = _
  rw [mask_at, h]
  rfl

/-- The second result at an object position. -/
theorem ref1_zero (oi : Fin 100) (ht : (V0 (Proc.devRef .tc main_arg1) : IVec S1024x77 32) (ix2 p q) = 0#32)
    (ho : (V0 (Proc.devRef .tc main_arg2) : IVec S1024x77 32) (ix2 p q) = BitVec.ofNat 32 oi.val) :
    ref1 V0 (ix3 p q y)
      = ref0 V0 (ix3 p q y) + (V0 (Proc.devRef .tc main_arg9) : FVec Ideal S77x768 .f32) (ix2 q y)
        + (V0 (Proc.devRef .tc main_arg10) : FVec Ideal S2x768 .f32) (ix2 0 y)
        + (V0 (Proc.devRef .tc main_arg11) : FVec Ideal S100x768 .f32) (ix2 oi y) := by
  have h34 : (res_main_v34 V0 : IVec S1024x77 1) (ix2 p q) = 0#1 := by
    unfold res_main_v34
    change IntOp.cmpi .eq ((V0 (Proc.devRef .tc main_arg1) : IVec S1024x77 32) (ix2 p q)) 1#32 = 0#1
    rw [ht]
    rfl
  unfold ref1
  rw [sel_zero _ _ _ _ _ _ h34, v44_eq, sel_zero _ _ _ _ _ _ h34, v32_eq, sel_one]
  · refine congrArg₂ (fun a b : EReal => a + b) (v24_at V0 p q y 0 ht) ?_
    exact look_at 100 _ _ _ p q y oi (by norm_num) (min_at _ p q oi ho)
  · change IntOp.cmpi .eq ((V0 (Proc.devRef .tc main_arg1) : IVec S1024x77 32) (ix2 p q)) 0#32 = 1#1
    rw [ht]
    rfl

/-- The second result at a relation position. -/
theorem ref1_one (sp op : Fin 100) (a b : Fin 201) (ha : a.val = q.val + 100 - sp.val) (hb : b.val = q.val + 100 - op.val)
    (ht : (V0 (Proc.devRef .tc main_arg1) : IVec S1024x77 32) (ix2 p q) = 1#32)
    (hs : (V0 (Proc.devRef .tc main_arg3) : IVec S1024x77 32) (ix2 p q) = BitVec.ofNat 32 sp.val)
    (ho : (V0 (Proc.devRef .tc main_arg4) : IVec S1024x77 32) (ix2 p q) = BitVec.ofNat 32 op.val) :
    ref1 V0 (ix3 p q y)
      = ref0 V0 (ix3 p q y) + (V0 (Proc.devRef .tc main_arg9) : FVec Ideal S77x768 .f32) (ix2 q y)
        + (V0 (Proc.devRef .tc main_arg10) : FVec Ideal S2x768 .f32) (ix2 1 y)
        + (V0 (Proc.devRef .tc main_arg12) : FVec Ideal S100x768 .f32) (ix2 sp y)
        + (V0 (Proc.devRef .tc main_arg13) : FVec Ideal S100x768 .f32) (ix2 op y)
        + (V0 (Proc.devRef .tc main_arg14) : FVec Ideal S201x768 .f32) (ix2 a y)
        + (V0 (Proc.devRef .tc main_arg14) : FVec Ideal S201x768 .f32) (ix2 b y) := by
  have h34 : (res_main_v34 V0 : IVec S1024x77 1) (ix2 p q) = 1#1 := by
    unfold res_main_v34
    change IntOp.cmpi .eq ((V0 (Proc.devRef .tc main_arg1) : IVec S1024x77 32) (ix2 p q)) 1#32 = 1#1
    rw [ht]
    rfl
  have h32 : (res_main_v32 V0 : FVec Ideal S1024x77x768 .f32) (ix3 p q y)
      = ref0 V0 (ix3 p q y) + (V0 (Proc.devRef .tc main_arg9) : FVec Ideal S77x768 .f32) (ix2 q y)
        + (V0 (Proc.devRef .tc main_arg10) : FVec Ideal S2x768 .f32) (ix2 1 y) := by
    rw [v32_eq, sel_zero]
    · exact v24_at V0 p q y 1 ht
    · change IntOp.cmpi .eq ((V0 (Proc.devRef .tc main_arg1) : IVec S1024x77 32) (ix2 p q)) 0#32 = 0#1
      rw [ht]
      rfl
  unfold ref1
  rw [sel_one _ _ _ _ _ _ h34]
  refine congrArg₂ (fun a b : EReal => a + b) (congrArg₂ (fun a b : EReal => a + b) ?_ ?_) ?_
  · rw [v44_eq, sel_one _ _ _ _ _ _ h34]
    refine congrArg₂ (fun a b : EReal => a + b) (congrArg₂ (fun a b : EReal => a + b) h32 ?_) ?_
    · exact look_at 100 _ _ _ p q y sp (by norm_num) (min_at _ p q sp hs)
    · exact look_at 100 _ _ _ p q y op (by norm_num) (min_at _ p q op ho)
  · refine look_at 201 _ _ _ p q y a (by norm_num) ?_
    rw [ha]
    exact dist_at V0 _ p q sp hs
  · refine look_at 201 _ _ _ p q y b (by norm_num) ?_
    rw [hb]
    exact dist_at V0 _ p q op ho

end

/-- The reference's run in these terms. -/
theorem refs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = ref0 (StableHlo.launchContents m c)
      ∧ r.2.mem ((c.tc : Thread nD τ).loc main_v58) = ref1 (StableHlo.launchContents m c) :=
  (θ_run defs _ _).mono (fun _ h c => ⟨(h c).1, (h c).2.1⟩) (run (F := Ideal) m ρ)

end Cert.ReferenceIdeal.Value
-- ==== Proof.Bounds.lean ====
module

public import proofs.«01_k».proof.Proof.Gen.Pre_in_range
public import Idealize.ShloMosaic.Lib.ReduceAll
public import Idealize.ShloMosaic.Lib.WordCmp
public import Idealize.ShloMosaic.Lib.Pointwise

@[expose] public section

set_option maxRecDepth 16384

noncomputable section

/-! What the precondition says of each integer argument, element by element. -/

namespace Cert.Pre_in_range

open Idealize.ShloMosaic

/-- A whole-array check that holds bounds every element: each is a natural number below `n`. -/
theorem lt_of_all (n : ℕ) (hn : n < 2 ^ 31) (X : IVec S1024x77 32) (j : S_.Idx)
    (h : Host.reduce IntOp.andi
      (andi (cmpi .sge X (broadcastInDim S1024x77 ![] Facts.bcast_S_S1024x77 (constantI S_ 32 0#32)))
        (cmpi .slt X (broadcastInDim S1024x77 ![] Facts.bcast_S_S1024x77 (constantI S_ 32 (BitVec.ofNat 32 n)))))
      (constantI S_ 1 1#1) Facts.reducesTo_S1024x77_S_d0_1 Facts.h_S_ j = 1#1) (i : S1024x77.Idx) :
    ∃ k : Fin n, X i = BitVec.ofNat 32 k.val := by
  have h1 := Host.reduce_andi_all _ _ _ _ j h i
  have h2 : IntOp.andi (IntOp.cmpi .sge (X i) 0#32) (IntOp.cmpi .slt (X i) (BitVec.ofNat 32 n)) = 1#1 := h1
  rw [WordCmp.andi_sge_zero_slt_ofNat (by omega), WordCmp.ofBool_decide_eq_one_iff] at h2
  exact ⟨⟨(X i).toNat, h2⟩, by simp⟩

/-- The precondition bounds the token types by 2 and the three pointers by 100. -/
theorem bounds {F : FTy → Type} [FloatOps F] (a0 : FVec F S1024x77x512 .f32) (a1 a2 a3 a4 : IVec S1024x77 32)
    (a5 : FVec F S512x768 .f32) (a6 : FVec F S768 .f32) (a7 : FVec F S768x768 .f32) (a8 : FVec F S768 .f32)
    (a9 : FVec F S77x768 .f32) (a10 : FVec F S2x768 .f32) (a11 a12 a13 : FVec F S100x768 .f32) (a14 : FVec F S201x768 .f32)
    (h : fn (F := F) a0 a1 a2 a3 a4 a5 a6 a7 a8 a9 a10 a11 a12 a13 a14 = fun _ => 1#1) (i : S1024x77.Idx) :
    (∃ k : Fin 2, a1 i = BitVec.ofNat 32 k.val) ∧ (∃ k : Fin 100, a2 i = BitVec.ofNat 32 k.val)
      ∧ (∃ k : Fin 100, a3 i = BitVec.ofNat 32 k.val) ∧ (∃ k : Fin 100, a4 i = BitVec.ofNat 32 k.val) := by
  have h0 := congrFun h ix0
  obtain ⟨h123, h4⟩ := IntOp.andi_eq_one.1 h0
  obtain ⟨h12, h3⟩ := IntOp.andi_eq_one.1 h123
  obtain ⟨h1, h2⟩ := IntOp.andi_eq_one.1 h12
  exact ⟨lt_of_all 2 (by omega) a1 ix0 h1 i, lt_of_all 100 (by omega) a2 ix0 h2 i, lt_of_all 100 (by omega) a3 ix0 h3 i,
    lt_of_all 100 (by omega) a4 ix0 h4 i⟩

end Cert.Pre_in_range
-- ==== Proof.Same.lean ====
module

public import proofs.«01_k».proof.Proof.KernelRun
public import proofs.«01_k».proof.Proof.Table
public import proofs.«01_k».proof.Proof.Words
public import proofs.«01_k».proof.Proof.RefVal
public import proofs.«01_k».proof.Proof.Bounds

@[expose] public section

set_option maxRecDepth 16384

noncomputable section

/-! The two programs' results are equal where the integer arguments are in range. -/

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD) (b : Fin 1024) (s : Fin 77) (e : Fin 768)

/-- The positions' rows. -/
def posRows : FVec Ideal S77x768 .f32 := m ((c : Thread nD τ).loc main_arg9)

/-- The types' rows. -/
def typeRows : FVec Ideal S2x768 .f32 := m ((c : Thread nD τ).loc main_arg10)

/-- The objects' own rows. -/
def selfRows : FVec Ideal S100x768 .f32 := m ((c : Thread nD τ).loc main_arg11)

/-- The subjects' rows. -/
def subRows : FVec Ideal S100x768 .f32 := m ((c : Thread nD τ).loc main_arg12)

/-- The rows of the objects related to. -/
def objRows : FVec Ideal S100x768 .f32 := m ((c : Thread nD τ).loc main_arg13)

/-- The distances' rows. -/
def distRows : FVec Ideal S201x768 .f32 := m ((c : Thread nD τ).loc main_arg14)

/-- The kernel's embedding term at an object position. -/
theorem lookedAt_zero (oi sp op : Fin 100) (ht : m ((c : Thread nD τ).loc main_arg1) (ix2 b s) = 0#32)
    (ho : m ((c : Thread nD τ).loc main_arg2) (ix2 b s) = BitVec.ofNat 32 oi.val)
    (hs : m ((c : Thread nD τ).loc main_arg3) (ix2 b s) = BitVec.ofNat 32 sp.val)
    (hp : m ((c : Thread nD τ).loc main_arg4) (ix2 b s) = BitVec.ofNat 32 op.val) :
    lookedAt m c b s e = selfRows m c (ix2 oi e)
      + typeRows m c (ix2 0 e) := by
  have h1 := oi.isLt
  obtain ⟨z1, z3, z5, z7, z9, hV⟩ := V_v4 m c
  unfold lookedAt
  rw [ht, ho, hs, hp, Spec.looked_zero s oi sp op _ ⟨oi.val, by omega⟩ ⟨520, by omega⟩ rfl rfl, hV]
  exact congrArg₂ (fun a b : EReal => a + b) (table_self _ _ _ _ _ _ _ _ _ _ _ oi e (by simp))
    (table_type _ _ _ _ _ _ _ _ _ _ _ 0 e rfl)

/-- The kernel's embedding term at a relation position. -/
theorem lookedAt_one (oi sp op : Fin 100) (x y : Fin 201) (hx : x.val = s.val + 100 - sp.val) (hy : y.val = s.val + 100 - op.val)
    (ht : m ((c : Thread nD τ).loc main_arg1) (ix2 b s) = 1#32)
    (ho : m ((c : Thread nD τ).loc main_arg2) (ix2 b s) = BitVec.ofNat 32 oi.val)
    (hs : m ((c : Thread nD τ).loc main_arg3) (ix2 b s) = BitVec.ofNat 32 sp.val)
    (hp : m ((c : Thread nD τ).loc main_arg4) (ix2 b s) = BitVec.ofNat 32 op.val) :
    lookedAt m c b s e = subRows m c (ix2 sp e)
      + objRows m c (ix2 op e)
      + (distRows m c (ix2 x e)
        + distRows m c (ix2 y e))
      + typeRows m c (ix2 1 e) := by
  have h1 := sp.isLt
  have h2 := op.isLt
  have h3 := s.isLt
  obtain ⟨z1, z3, z5, z7, z9, hV⟩ := V_v4 m c
  unfold lookedAt
  rw [ht, ho, hs, hp, Spec.looked_one s oi sp op _ ⟨sp.val + 104, by omega⟩ ⟨208 + op.val, by omega⟩
    ⟨312 + (s.val + 100 - sp.val), by omega⟩ ⟨312 + (s.val + 100 - op.val), by omega⟩ ⟨521, by omega⟩ rfl rfl rfl rfl rfl, hV]
  refine congrArg₂ (fun a b : EReal => a + b) (congrArg₂ (fun a b : EReal => a + b)
    (congrArg₂ (fun a b : EReal => a + b) ?_ ?_) (congrArg₂ (fun a b : EReal => a + b) ?_ ?_)) ?_
  · exact table_sub _ _ _ _ _ _ _ _ _ _ _ sp e (by dsimp only; omega)
  · exact table_obj _ _ _ _ _ _ _ _ _ _ _ op e rfl
  · exact table_rel _ _ _ _ _ _ _ _ _ _ _ x e (by dsimp only; omega)
  · exact table_rel _ _ _ _ _ _ _ _ _ _ _ y e (by dsimp only; omega)
  · exact table_type _ _ _ _ _ _ _ _ _ _ _ 1 e rfl

end Cert.KernelIdeal.Value

namespace Cert.Same

open Cert.KernelIdeal Cert.KernelIdeal.Value

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The two memories hold the same arguments on device `c`. -/
def Agree : Prop :=
  m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)

/-- The first results are equal. -/
theorem same0 (h : Agree m m' c) : Cert.ReferenceIdeal.Value.ref0 (StableHlo.launchContents m' c) = out0 m c := by
  obtain ⟨h0, h1, h2, h3, h4, h5, h6, h7, h8, h9, h10, h11, h12, h13, h14⟩ := h
  funext i
  idx_vars i
  rw [Cert.ReferenceIdeal.Value.ref0_at]
  change Spec.clean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) i0 i1 i2
    = Spec.clean (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) i0 i1 i2
  rw [h0, h5, h6, h7, h8]

/-- The second results are equal where the integer arguments are in range. -/
theorem same1 [hP : Cert.Pre_in_range.Facts] (hpre : Cert.Pre_in_range.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) = fun _ => 1#1)
    (h : Agree m m' c) : Cert.ReferenceIdeal.Value.ref1 (StableHlo.launchContents m' c) = out1 m c := by
  have h0 := same0 m m' c h
  obtain ⟨-, h1, h2, h3, h4, -, -, -, -, h9, h10, h11, h12, h13, h14⟩ := h
  funext i
  idx_vars i
  obtain ⟨⟨t, ht⟩, ⟨oi, ho⟩, ⟨sp, hs⟩, ⟨op, hp⟩⟩ := Cert.Pre_in_range.bounds _ _ _ _ _ _ _ _ _ _ _ _ _ _ _ hpre (ix2 i0 i1)
  have ha := congrFun h0 (ix3 i0 i1 i2)
  have g9 : (StableHlo.launchContents m' c (Proc.devRef .tc Cert.ReferenceIdeal.main_arg9) : FVec Ideal S77x768 .f32) = posRows m c := h9
  have g10 : (StableHlo.launchContents m' c (Proc.devRef .tc Cert.ReferenceIdeal.main_arg10) : FVec Ideal S2x768 .f32) = typeRows m c := h10
  have g11 : (StableHlo.launchContents m' c (Proc.devRef .tc Cert.ReferenceIdeal.main_arg11) : FVec Ideal S100x768 .f32) = selfRows m c := h11
  have g12 : (StableHlo.launchContents m' c (Proc.devRef .tc Cert.ReferenceIdeal.main_arg12) : FVec Ideal S100x768 .f32) = subRows m c := h12
  have g13 : (StableHlo.launchContents m' c (Proc.devRef .tc Cert.ReferenceIdeal.main_arg13) : FVec Ideal S100x768 .f32) = objRows m c := h13
  have g14 : (StableHlo.launchContents m' c (Proc.devRef .tc Cert.ReferenceIdeal.main_arg14) : FVec Ideal S201x768 .f32) = distRows m c := h14
  have hk : out1 m c (ix3 i0 i1 i2) = out0 m c (ix3 i0 i1 i2) + lookedAt m c i0 i1 i2 + posRows m c (ix2 i1 i2) := rfl
  rw [hk]
  rcases (show t = 0 ∨ t = 1 by omega) with rfl | rfl
  · rw [Cert.ReferenceIdeal.Value.ref1_zero _ i0 i1 i2 oi ((congrFun h1 _).trans ht) ((congrFun h2 _).trans ho), ha,
      lookedAt_zero m c i0 i1 i2 oi sp op ht ho hs hp, g9, g10, g11]
    ac_rfl
  · have h5 := sp.isLt
    have h6 := op.isLt
    have h7 := i1.isLt
    rw [Cert.ReferenceIdeal.Value.ref1_one _ i0 i1 i2 sp op ⟨i1.val + 100 - sp.val, by omega⟩ ⟨i1.val + 100 - op.val, by omega⟩
        rfl rfl ((congrFun h1 _).trans ht) ((congrFun h3 _).trans hs) ((congrFun h4 _).trans hp), ha,
      lookedAt_one m c i0 i1 i2 oi sp op ⟨i1.val + 100 - sp.val, by omega⟩ ⟨i1.val + 100 - op.val, by omega⟩ rfl rfl ht ho hs hp,
      g9, g10, g12, g13, g14]
    ac_rfl

end Cert.Same
-- ==== Proof.Claims.lean ====
module

public import proofs.«01_k».proof.Defs
public import proofs.«01_k».proof.Proof.Same
public import proofs.«01_k».proof.Proof.Gen.Kernel.Frame
public import proofs.«01_k».proof.Proof.Gen.KernelIdeal.Frame
public import Idealize.ShloMosaic.Lib.Quiescent

@[expose] public section

set_option maxRecDepth 16384

noncomputable section

/-! The claims, one theorem each. -/

namespace Cert.KClaims

open Idealize.ShloMosaic Idealize.SL.Sem

/-- The kernel over the machine's words runs, leaves its arguments unchanged and every semaphore at zero. -/
theorem frame_p : @Cert.quiescent_Kernel Cert.Kernel.Gen.facts := fun m ρ _ => Cert.Kernel.Gen.frame m ρ

/-- The kernel over the extended reals runs, leaves its arguments unchanged and every semaphore at zero. -/
theorem frame_pi : @Cert.quiescent_KernelIdeal Cert.KernelIdeal.Gen.facts := fun m ρ _ => Cert.KernelIdeal.Gen.frame m ρ

/-- The same, stated where the integer arguments are in range. -/
theorem frame_pi_pre : @Cert.quiescent_KernelIdeal_pre_in_range Cert.KernelIdeal.Gen.facts Cert.Pre_in_range.Gen.facts :=
  fun m ρ _ => Cert.KernelIdeal.Gen.frame m ρ

/-- The reference over the extended reals runs, leaves its arguments unchanged and every semaphore at zero. -/
theorem frame_ri : @Cert.quiescent_ReferenceIdeal Cert.ReferenceIdeal.Gen.facts :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The same, stated where the integer arguments are in range. -/
theorem frame_ri_pre : @Cert.quiescent_ReferenceIdeal_pre_in_range Cert.ReferenceIdeal.Gen.facts Cert.Pre_in_range.Gen.facts :=
  fun m ρ _ => frame_ri m ρ trivial

/-- The one constant that is named, the reciprocal of the root of 2, is the real that its name says. -/
theorem preserves : Cert.preserves_Kernel_KernelIdeal :=
  IdealRules.named_const.statement Cert.KernelIdeal.κ "rsqrt2" .f32 0x3F3504F3#32 (((Real.sqrt 2)⁻¹ : ℝ) : EReal) rfl

/-- Where the integer arguments are in range, both results of the kernel and of the reference are equal. -/
theorem algebraic : @Cert.algebraic_KernelIdeal_ReferenceIdeal_pre_in_range Cert.KernelIdeal.Gen.facts Cert.ReferenceIdeal.Gen.facts
    Cert.Pre_in_range.Gen.facts := by
  intro m g m' g' hpre hag
  refine ⟨Cert.KernelIdeal.Value.out0 m, Cert.KernelIdeal.Value.out1 m, ?_, ?_⟩
  · exact (θ_run Cert.KernelIdeal.defs _ _).mono
      (fun r h c => ⟨(h.1 c).1, (h.1 c).2, h.2 c⟩)
      (θ_run_and (Cert.KernelIdeal.Value.results m g) (Cert.KernelIdeal.Gen.unchanged m g))
  · exact (θ_run Cert.ReferenceIdeal.defs _ _).mono
      (fun r h c => ⟨(h c).1.trans (Cert.Same.same0 m m' c (hag c)),
        (h c).2.1.trans (Cert.Same.same1 (hP := Cert.Pre_in_range.Gen.facts) m m' c (hpre c) (hag c)), (h c).2.2⟩)
      (Cert.ReferenceIdeal.Value.run (F := Ideal) m' g')

end Cert.KClaims
-- ==== Proof.lean ====
module

public import proofs.«01_k».proof.Defs
public import proofs.«01_k».proof.Proof.Claims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import Idealize.ShloMosaic.Adequacy
public import Idealize.ShloMosaic.Init

@[expose] public section

noncomputable section

namespace Cert.Proof

open Idealize.ShloMosaic Idealize.SL.Sem

/-- All the claims of the certificate. -/
theorem claim : Cert.Claim :=
  ⟨Cert.Kernel.Gen.facts, Cert.KernelIdeal.Gen.facts, Cert.ReferenceIdeal.Gen.facts, Cert.Pre_in_range.Gen.facts,
    KClaims.frame_p, KClaims.frame_pi, KClaims.frame_pi_pre, KClaims.frame_ri, KClaims.frame_ri_pre, KClaims.preserves,
    KClaims.algebraic⟩

end Cert.Proof

end
